-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048 : Shape := ⟨2, ![32, 2048]⟩
abbrev S16384x2048 : Shape := ⟨2, ![16384, 2048]⟩
abbrev S16384 : Shape := ⟨1, ![16384]⟩
abbrev S2048x16384 : Shape := ⟨2, ![2048, 16384]⟩
abbrev S1x16384 : Shape := ⟨2, ![1, 16384]⟩
abbrev S1024x2048 : Shape := ⟨2, ![1024, 2048]⟩
abbrev S1x1024 : Shape := ⟨2, ![1, 1024]⟩
abbrev S2048x1024 : Shape := ⟨2, ![2048, 1024]⟩
abbrev S128x32x128 : Shape := ⟨3, ![128, 32, 128]⟩
abbrev S8x32x128 : Shape := ⟨3, ![8, 32, 128]⟩
abbrev S32x1 : Shape := ⟨2, ![32, 1]⟩
abbrev S32x1024 : Shape := ⟨2, ![32, 1024]⟩
abbrev S32x128 : Shape := ⟨2, ![32, 128]⟩
abbrev S1x32x128 : Shape := ⟨3, ![1, 32, 128]⟩
abbrev S32 : Shape := ⟨1, ![32]⟩
abbrev S1x32x1 : Shape := ⟨3, ![1, 32, 1]⟩
abbrev S1x32 : Shape := ⟨2, ![1, 32]⟩
abbrev S1 : Shape := ⟨1, ![1]⟩
abbrev S1x1 : Shape := ⟨2, ![1, 1]⟩

abbrev nBuf : Space → Nat
  | .hbm => 6
  | .vmem => 14
  | .smem => 0
  | _ => 0

abbrev bufTy : (tb : Table) → Fin (tcTables nBuf tb) → BufTy
  | .hbm, ⟨0, _⟩ => ⟨S32x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S1x16384, .f32⟩
  | .hbm, ⟨5, _⟩ => ⟨S32x2048, .f32⟩
  | .local _ .vmem, ⟨0, _⟩ => ⟨S32x2048, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S32x2048, .f32⟩
  | .local _ .vmem, ⟨8, _⟩ => ⟨S128x32x128, .f32⟩
  | .local _ .vmem, ⟨9, _⟩ => ⟨S128x32x128, .f32⟩
  | .local _ .vmem, ⟨10, _⟩ => ⟨S8x32x128, .f32⟩
  | .local _ .vmem, ⟨11, _⟩ => ⟨S8x32x128, .i32⟩
  | .local _ .vmem, ⟨12, _⟩ => ⟨S32x1, .f32⟩
  | .local _ .vmem, ⟨13, _⟩ => ⟨S32x1, .i32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) (c0_i32_10 : BitVec 32) : Fin 3 → Nat :=
  let arg0 : BitVec 32 := BitVec.ofNat 32 (i 0).val
  let c8_i32 : BitVec 32 := 8#32
  let v20 : BitVec 32 := Scalar.muli arg0 c8_i32
  let v21 : BitVec 32 := Scalar.addi v20 c0_i32_10
  let v22 : Index := Scalar.indexCast v21
  let c0_11 : Index := 0#32
  let c0_12 : Index := 0#32
  ![v22.toNat, 0, 0]
def k0_cond3 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_12 : BitVec 32 := 0#32
  let c32_i32 : BitVec 32 := 32#32
  let v17 : BitVec 32 := Scalar.addi c0_i32_12 c32_i32
  let c1_i32 : BitVec 32 := 1#32
  ⟨c0_i32_12, v17, c1_i32⟩
@[reducible] def k0_t2_loop : Scf.Loop 32 :=
  let c0_i32_26 : BitVec 32 := 0#32
  let c32_i32_27 : BitVec 32 := 32#32
  let v48 : BitVec 32 := Scalar.addi c0_i32_26 c32_i32_27
  let c1_i32_28 : BitVec 32 := 1#32
  ⟨c0_i32_26, v48, c1_i32_28⟩
def k0_cond5 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def k0_off2 (i : grid0.Coords) (c0_i32_5 : BitVec 32) : Fin 3 → Nat :=
  let arg0 : BitVec 32 := BitVec.ofNat 32 (i 0).val
  let c16_i32_4 : BitVec 32 := 16#32
  let v9 : BitVec 32 := Scalar.subi arg0 c16_i32_4
  let c8_i32 : BitVec 32 := 8#32
  let v10 : BitVec 32 := Scalar.muli v9 c8_i32
  let v11 : BitVec 32 := Scalar.addi v10 c0_i32_5
  let v12 : Index := Scalar.indexCast v11
  let c0 : Index := 0#32
  let c0_6 : Index := 0#32
  ![v12.toNat, 0, 0]
def k0_cond6 (i : grid0.Coords) : BitVec 1 :=
  let arg0 : BitVec 32 := BitVec.ofNat 32 (i 0).val
  let c16_i32_37 : BitVec 32 := 16#32
  let v70 : BitVec 1 := Scalar.cmpi .eq arg0 c16_i32_37
  let v71 : BitVec 32 := Scalar.extui v70
  let c0_i32_38 : BitVec 32 := 0#32
  let v72 : BitVec 1 := Scalar.cmpi .ne v71 c0_i32_38
  v72

def k0_cond7 (i : grid0.Coords) : BitVec 1 :=
  let arg0 : BitVec 32 := BitVec.ofNat 32 (i 0).val
  let c16_i32_39 : BitVec 32 := 16#32
  let v73 : BitVec 1 := Scalar.cmpi .sgt arg0 c16_i32_39
  let v74 : BitVec 32 := Scalar.extui v73
  let c0_i32_40 : BitVec 32 := 0#32
  let v75 : BitVec 1 := Scalar.cmpi .ne v74 c0_i32_40
  v75

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x2048 : Shape := ⟨2, ![32, 2048]⟩
abbrev S16384x2048 : Shape := ⟨2, ![16384, 2048]⟩
abbrev S16384 : Shape := ⟨1, ![16384]⟩
abbrev S2048x16384 : Shape := ⟨2, ![2048, 16384]⟩
abbrev S32x16384 : Shape := ⟨2, ![32, 16384]⟩
abbrev S1x16384 : Shape := ⟨2, ![1, 16384]⟩
abbrev S_ : Shape := ⟨0, ![]⟩
abbrev S32x32 : Shape := ⟨2, ![32, 32]⟩
abbrev S32 : Shape := ⟨1, ![32]⟩
abbrev S32x1 : Shape := ⟨2, ![32, 1]⟩
abbrev S32x32x1 : Shape := ⟨3, ![32, 32, 1]⟩
abbrev S32x32x2 : Shape := ⟨3, ![32, 32, 2]⟩

abbrev nBuf : Space → Nat
  | .hbm => 39
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S2048x16384, .f32⟩
  | .hbm, ⟨5, _⟩ => ⟨S32x16384, .f32⟩
  | .hbm, ⟨6, _⟩ => ⟨S1x16384, .f32⟩
  | .hbm, ⟨7, _⟩ => ⟨S32x16384, .f32⟩
  | .hbm, ⟨8, _⟩ => ⟨S32x16384, .f32⟩
  | .hbm, ⟨9, _⟩ => ⟨S_, .f32⟩
  | .hbm, ⟨10, _⟩ => ⟨S32x16384, .f32⟩
  | .hbm, ⟨11, _⟩ => ⟨S32x16384, .f32⟩
  | .hbm, ⟨12, _⟩ => ⟨S32x32, .f32⟩
  | .hbm, ⟨13, _⟩ => ⟨S32x32, .i32⟩
  | .hbm, ⟨14, _⟩ => ⟨S32, .i32⟩
  | .hbm, ⟨15, _⟩ => ⟨S32x1, .i32⟩
  | .hbm, ⟨16, _⟩ => ⟨S_, .f32⟩
  | .hbm, ⟨17, _⟩ => ⟨S32x16384, .f32⟩
  | .hbm, ⟨18, _⟩ => ⟨S_, .i32⟩
  | .hbm, ⟨19, _⟩ => ⟨S32x1, .i32⟩
  | .hbm, ⟨20, _⟩ => ⟨S32x1, .i1⟩
  | .hbm, ⟨21, _⟩ => ⟨S_, .i32⟩
  | .hbm, ⟨22, _⟩ => ⟨S32x1, .i32⟩
  | .hbm, ⟨23, _⟩ => ⟨S32x1, .i32⟩
  | .hbm, ⟨24, _⟩ => ⟨S32x1, .i32⟩
  | .hbm, ⟨25, _⟩ => ⟨S_, .i32⟩
  | .hbm, ⟨26, _⟩ => ⟨S32x32, .i32⟩
  | .hbm, ⟨27, _⟩ => ⟨S32x32, .i1⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S32x32, .i32⟩
  | .hbm, ⟨32, _⟩ => ⟨S32x32, .i32⟩
  | .hbm, ⟨33, _⟩ => ⟨S32x32x1, .i32⟩
  | .hbm, ⟨34, _⟩ => ⟨S32x32x1, .i32⟩
  | .hbm, ⟨35, _⟩ => ⟨S32x32x2, .i32⟩
  | .hbm, ⟨36, _⟩ => ⟨S32x16384, .f32⟩
  | .hbm, ⟨37, _⟩ => ⟨S16384x2048, .f32⟩
  | .hbm, ⟨38, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_values : Ref sig .tc := ⟨.hbm, 12, rfl⟩
abbrev main_indices : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.RunEncode.lean ====
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.ValueLayout

/-! The encoding points: the first sixteen points fill the scratch with the hidden layer, eight lane tiles each. -/

@[expose] public section

noncomputable section

namespace Cert.Proof.Run

open Cert.KernelIdeal Cert.KernelIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first `n` lane tiles of `h` are those of `Hf`. -/
def Agree (Hf : S128x32x128.Idx → Elt F .f32) (n : ℕ) (h : S128x32x128.Idx → Elt F .f32) : Prop :=
  ∀ x : S128x32x128.Idx, (x 0).val < n → h x = Hf x

/-- Storing lane tile `n` of `Hf` over contents agreeing with `Hf` below `n` makes them agree below `n + 1`. -/
theorem agree_step {Hf : S128x32x128.Idx → Elt F .f32} {n : ℕ} (v : View sig .tc .vmem S128x32x128 .f32) (f : v.ty.Contents (Elt F))
    {off : Fin 3 → ℕ} (hoff : off = ![n, 0, 0]) (inb : ∀ a, off a + S1x32x128.size a ≤ S128x32x128.size a)
    (w : S1x32x128.Idx → Elt F .f32) (L : List (View.Piece (Elt F) S128x32x128 .f32))
    (hw : ∀ (hn : n < 128) (r : Fin 32) (l : Fin 128), w (ix3 0 r l) = Hf (ix3 ⟨n, hn⟩ r l))
    (hL : Agree Hf n (v.read (Elt F) (v.writes (Elt F) f L))) :
    Agree Hf (n + 1) (v.read (Elt F) (v.writes (Elt F) f (⟨Rect.unit off S1x32x128.size inb, w⟩ :: L))) := by
  intro x hx
  by_cases h : (x 0).val = n
  · have hn : n < 128 := by have := (x 0).isLt; simpa [h] using this
    refine (View.read_writes_cons_unit_of_mem v f inb w L x (ix3 0 (x 1) (x 2)) hoff (by
      intro a; fin_cases a <;> simp [h])).trans ((hw hn (x 1) (x 2)).trans ?_)
    congr 1
    funext a; fin_cases a
    · exact Fin.ext h.symm
    · rfl
    · rfl
  · rw [View.read_writes_cons_unit_of_not_mem v f inb w L x hoff 0 (by left; simp; omega)]
    exact hL x (by omega)

/-- A chunk of 128 columns of the encoded block, recast to one lane tile, at an index. -/
theorem chunk_apply (P : FVec F S32x1024 .f32) (o : ℕ) (hs : S32x1024.Slices ![0, o] S32x128) (r : Fin 32) (l : Fin 128) (ho : o + l.val < 1024) :
    shapeCast S1x32x128 (shapeCast S1x32x128 (extractStridedSlice S32x128 ![0, o] P hs) shapeCasts_S32x128_S1x32x128) shapeCasts_S1x32x128_S1x32x128 (ix3 0 r l)
      = P (ix2 r ⟨o + l.val, ho⟩) := by
  rw [shapeCast_self]
  refine (ValueIdx.shapeCast_ab_1ab_apply _ _ _ _ _).trans ?_
  refine extractStridedSlice_apply _ _ _ _ _ ?_
  intro a; fin_cases a <;> simp

set_option maxHeartbeats 4000000 in
/-- An encoding point runs: from scratch holding the first tiles of the hidden layer `Hf` it leaves the scratch holding eight more. -/
theorem run_encode (c : Dev nD) (i : grid0.Coords) (arg1 : Memref sig .tc .vmem S32x2048 .f32) (harg1 : arg1.IsWhole)
    (arg2 : Memref sig .tc .vmem S1024x2048 .f32) (harg2 : arg2.IsWhole) (arg3 : Memref sig .tc .vmem S1x1024 .f32) (harg3 : arg3.IsWhole)
    (arg4 : Memref sig .tc .vmem S2048x1024 .f32) (harg4 : arg4.IsWhole) (arg5 : Memref sig .tc .vmem S32x2048 .f32) (harg5 : arg5.IsWhole)
    (arg6 : Memref sig .tc .vmem S128x32x128 .f32) (harg6 : arg6.IsWhole) (arg7 : Memref sig .tc .vmem S128x32x128 .f32) (harg7 : arg7.IsWhole)
    (arg8 : Memref sig .tc .vmem S8x32x128 .f32) (harg8 : arg8.IsWhole) (arg9 : Memref sig .tc .vmem S8x32x128 .i32) (harg9 : arg9.IsWhole)
    (arg10 : Memref sig .tc .vmem S32x1 .f32) (harg10 : arg10.IsWhole) (arg11 : Memref sig .tc .vmem S32x1 .i32) (harg11 : arg11.IsWhole)
    (hc1 : k0_cond1 i = 1#1) (hc3 : ¬ k0_cond3 i = 1#1) (hc5 : ¬ k0_cond5 i = 1#1)
    (x1 : S32x2048.Idx → Elt F .f32) (x2 : S1024x2048.Idx → Elt F .f32) (x3 : S1x1024.Idx → Elt F .f32)
    (Hf h : S128x32x128.Idx → Elt F .f32) (hh : Agree Hf (8 * (i 0).val) h)
    (hHf : ∀ (k : ℕ) (hk : k < 8) (hn : 8 * (i 0).val + k < 128) (r : Fin 32) (l : Fin 128),
      k0_pay10 x1 x2 x3 (ix2 r ⟨k * 128 + l.val, by have := l.isLt; omega⟩) = Hf (ix3 ⟨8 * (i 0).val + k, hn⟩ r l)) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg6 fullShare h ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ (∃ d, ⌜Agree Hf (8 * (i 0).val + 8) d⌝ ∗ owns (c : Thread nD τ) arg6 fullShare d) ∗ (∃ d, owns (c : Thread nD τ) arg8 fullShare d) ∗ (∃ d, owns (c : Thread nD τ) arg9 fullShare d)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f1, %hf1, H1⟩, ⟨%f2, %hf2, H2⟩, ⟨%f3, %hf3, H3⟩, ⟨%f6, %hf6, H6⟩, ⟨%d8, %f8, -, H8⟩, ⟨%d9, %f9, -, H9⟩, Hk⟩
  obtain rfl := harg1.eq_unread hf1; obtain rfl := harg2.eq_unread hf2; obtain rfl := harg3.eq_unread hf3; obtain rfl := harg6.eq_unread hf6
  sl_exec (disch := first | sl_exact hc1 | sl_exact hc3 | sl_exact hc5)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H6]
  · iexists _; isplitr; swap
    · iexists _; isplitr; swap
      · iexact H6
      ipureintro; rfl
    ipureintro
    have e1 := arg1.view.readAt_full (harg1.unread x1) inb_S32x2048_S32x2048_0_0
    have e2 := arg2.view.readAt_full (harg2.unread x2) inb_S1024x2048_S1024x2048_0_0
    have e3 := arg3.view.readAt_full (harg3.unread x3) inb_S1x1024_S1x1024_0_0
    rw [hf1] at e1; rw [hf2] at e2; rw [hf3] at e3
    have chunk : ∀ (k o : ℕ) (hk : k < 8) (ho : o = k * 128) (hs : S32x1024.Slices ![0, o] S32x128) (hn : 8 * (i 0).val + k < 128) (r : Fin 32) (l : Fin 128),
        shapeCast S1x32x128 (shapeCast S1x32x128 (extractStridedSlice S32x128 ![0, o] (k0_pay10 x1 x2 x3) hs) shapeCasts_S32x128_S1x32x128) shapeCasts_S1x32x128_S1x32x128 (ix3 0 r l)
          = Hf (ix3 ⟨8 * (i 0).val + k, hn⟩ r l) := by
      intro k o hk ho hs hn r l
      subst ho
      rw [← hHf k hk hn r l]
      exact chunk_apply _ _ hs r l (by have := l.isLt; omega)
    have chunk' : ∀ (k o : ℕ) (hk : k < 8) (ho : o = k * 128) (hs : S32x1024.Slices ![0, o] S32x128) (hn : 8 * (i 0).val + k < 128) (r : Fin 32) (l : Fin 128),
        shapeCast S1x32x128 (shapeCast S1x32x128 (extractStridedSlice S32x128 ![0, o] (k0_pay10 (arg1.view.readAt (Elt F) (Rect.unit ![0, 0] S32x2048.size inb_S32x2048_S32x2048_0_0).toLoadRect (harg1.unread x1))
            (arg2.view.readAt (Elt F) (Rect.unit ![0, 0] S1024x2048.size inb_S1024x2048_S1024x2048_0_0).toLoadRect (harg2.unread x2))
            (arg3.view.readAt (Elt F) (Rect.unit ![0, 0] S1x1024.size inb_S1x1024_S1x1024_0_0).toLoadRect (harg3.unread x3))) hs) shapeCasts_S32x128_S1x32x128) shapeCasts_S1x32x128_S1x32x128 (ix3 0 r l)
          = Hf (ix3 ⟨8 * (i 0).val + k, hn⟩ r l) := by
      intro k o hk ho hs hn r l
      rw [e1, e2, e3]
      exact chunk k o hk ho hs hn r l
    refine agree_step (n := 8 * (i 0).val + 7) _ _ (k0_off1_eq i 7) _ _ _ (chunk' 7 896 (by omega) (by omega) slices_S32x1024_o0_896_S32x128) ?_
    refine agree_step (n := 8 * (i 0).val + 6) _ _ (k0_off1_eq i 6) _ _ _ (chunk' 6 768 (by omega) (by omega) slices_S32x1024_o0_768_S32x128) ?_
    refine agree_step (n := 8 * (i 0).val + 5) _ _ (k0_off1_eq i 5) _ _ _ (chunk' 5 640 (by omega) (by omega) slices_S32x1024_o0_640_S32x128) ?_
    refine agree_step (n := 8 * (i 0).val + 4) _ _ (k0_off1_eq i 4) _ _ _ (chunk' 4 512 (by omega) (by omega) slices_S32x1024_o0_512_S32x128) ?_
    refine agree_step (n := 8 * (i 0).val + 3) _ _ (k0_off1_eq i 3) _ _ _ (chunk' 3 384 (by omega) (by omega) slices_S32x1024_o0_384_S32x128) ?_
    refine agree_step (n := 8 * (i 0).val + 2) _ _ (k0_off1_eq i 2) _ _ _ (chunk' 2 256 (by omega) (by omega) slices_S32x1024_o0_256_S32x128) ?_
    refine agree_step (n := 8 * (i 0).val + 1) _ _ (k0_off1_eq i 1) _ _ _ (chunk' 1 128 (by omega) (by omega) slices_S32x1024_o0_128_S32x128) ?_
    refine agree_step (n := 8 * (i 0).val + 0) _ _ (k0_off1_eq i 0) _ _ _ (chunk' 0 0 (by omega) (by omega) slices_S32x1024_o0_0_S32x128) ?_
    rw [View.writes_nil, hf6]; exact hh
  isplitl [H8]
  · iexists _; iexists _; isplitr; swap
    · iexact H8
    ipureintro; rfl
  iexists _; iexists _; isplitr; swap
  · iexact H9
  ipureintro; rfl

end Cert.Proof.Run

end
-- ==== Proof.RunDecode.lean ====
module

public import proofs.«01_k».proof.Proof.Gen.KernelIdeal.Frame
public import proofs.«01_k».proof.Proof.Gen.KernelIdeal.Loops
public import Idealize.ShloMosaic.Lib.VecWindow
public import Idealize.ShloMosaic.Lib.Pipeline.Value

/-! What one grid point from the seventeenth on does: the selection of a threshold at the seventeenth, and the
    masked product of a block of the hidden layer with a block of the decoder at each of them. -/

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lane tile of the hidden layer that the decoding point `i` loads as its `k`-th. -/
def tile (i : grid0.Coords) (h5 : k0_cond5 i = 1#1) (k : Fin 8) (h : S128x32x128.Idx → Elt F .f32) : Vec F S1x32x128 .f32 :=
  VecWindow.window h (k0_off2 i (BitVec.ofNat 32 k.val)) S1x32x128.size (k0_off2_inb i h5 k)

/-- The masked product the decoding point `i` adds: of the hidden layer `h`, the thresholds `T`, the last kept columns
    `I` and the decoder's block `x4`. -/
def dec (i : grid0.Coords) (h5 : k0_cond5 i = 1#1) (h : S128x32x128.Idx → Elt F .f32) (T : S32x1.Idx → Elt F .f32) (I : S32x1.Idx → Elt F .i32)
    (x4 : S2048x1024.Idx → Elt F .f32) : FVec F S32x2048 .f32 :=
  k0_pay8 (Scalar.subi (BitVec.ofNat 32 (i 0).val) 16#32) (k0_pay64 (tile i h5 0 h)) (k0_pay65 (tile i h5 1 h)) (k0_pay66 (tile i h5 2 h)) (k0_pay67 (tile i h5 3 h))
    (k0_pay68 (tile i h5 4 h)) (k0_pay69 (tile i h5 5 h)) (tile i h5 6 h) (tile i h5 7 h) T T I x4

/-- The working copy of the hidden layer after `k` trips of the exact selection loop. -/
def iter (h : S128x32x128.Idx → Elt F .f32) (k : ℕ) : S128x32x128.Idx → Elt F .f32 :=
  (k0_pay5 k0_pay57)^[k] h

/-- One more trip of the selection loop. -/
theorem iter_succ (h : S128x32x128.Idx → Elt F .f32) (k : ℕ) : iter h (k + 1) = k0_pay5 k0_pay57 (iter h k) :=
  Function.iterate_succ_apply' _ _ _

/-- The word the seventeenth point branches on: one where some row's mask does not keep exactly 32 columns. -/
def badWord (h : S128x32x128.Idx → Elt F .f32) (T : S32x1.Idx → Elt F .f32) (I : S32x1.Idx → Elt F .i32) : BitVec 1 :=
  Scalar.cmpi .ne (Scalar.extui (Scalar.cmpf .ogt (k0_pay63 h T I) (Scalar.ofBits .f32 0x00000000#32)) : BitVec 32) 0#32

section
variable (c : Dev nD) (i : grid0.Coords)
  (arg1 : Memref sig .tc .vmem S32x2048 .f32) (harg1 : arg1.IsWhole)
  (arg2 : Memref sig .tc .vmem S1024x2048 .f32) (harg2 : arg2.IsWhole)
  (arg3 : Memref sig .tc .vmem S1x1024 .f32) (harg3 : arg3.IsWhole)
  (arg4 : Memref sig .tc .vmem S2048x1024 .f32) (harg4 : arg4.IsWhole)
  (arg5 : Memref sig .tc .vmem S32x2048 .f32) (harg5 : arg5.IsWhole)
  (arg6 : Memref sig .tc .vmem S128x32x128 .f32) (harg6 : arg6.IsWhole)
  (arg7 : Memref sig .tc .vmem S128x32x128 .f32) (harg7 : arg7.IsWhole)
  (arg8 : Memref sig .tc .vmem S8x32x128 .f32) (harg8 : arg8.IsWhole)
  (arg9 : Memref sig .tc .vmem S8x32x128 .i32) (harg9 : arg9.IsWhole)
  (arg10 : Memref sig .tc .vmem S32x1 .f32) (harg10 : arg10.IsWhole)
  (arg11 : Memref sig .tc .vmem S32x1 .i32) (harg11 : arg11.IsWhole)

/-- The masked product of what the loads of a decoding point read. -/
theorem dec_of_reads (hc5 : k0_cond5 i = 1#1) (f4 : arg4.view.ty.Contents (Elt F)) (f6 : arg6.view.ty.Contents (Elt F)) (f10 : arg10.view.ty.Contents (Elt F)) (f11 : arg11.view.ty.Contents (Elt F)) :
    k0_pay8 (Scalar.subi (BitVec.ofNat 32 (i 0).val) 16#32)
      (k0_pay64 (arg6.view.readAt (Elt F) (Rect.unit (s := S128x32x128) (k0_off2 i 0#32) S1x32x128.size (k0_off2_inb i hc5 0)).toLoadRect f6))
      (k0_pay65 (arg6.view.readAt (Elt F) (Rect.unit (s := S128x32x128) (k0_off2 i 1#32) S1x32x128.size (k0_off2_inb i hc5 1)).toLoadRect f6))
      (k0_pay66 (arg6.view.readAt (Elt F) (Rect.unit (s := S128x32x128) (k0_off2 i 2#32) S1x32x128.size (k0_off2_inb i hc5 2)).toLoadRect f6))
      (k0_pay67 (arg6.view.readAt (Elt F) (Rect.unit (s := S128x32x128) (k0_off2 i 3#32) S1x32x128.size (k0_off2_inb i hc5 3)).toLoadRect f6))
      (k0_pay68 (arg6.view.readAt (Elt F) (Rect.unit (s := S128x32x128) (k0_off2 i 4#32) S1x32x128.size (k0_off2_inb i hc5 4)).toLoadRect f6))
      (k0_pay69 (arg6.view.readAt (Elt F) (Rect.unit (s := S128x32x128) (k0_off2 i 5#32) S1x32x128.size (k0_off2_inb i hc5 5)).toLoadRect f6))
      (arg6.view.readAt (Elt F) (Rect.unit (s := S128x32x128) (k0_off2 i 6#32) S1x32x128.size (k0_off2_inb i hc5 6)).toLoadRect f6)
      (arg6.view.readAt (Elt F) (Rect.unit (s := S128x32x128) (k0_off2 i 7#32) S1x32x128.size (k0_off2_inb i hc5 7)).toLoadRect f6)
      (arg10.view.readAt (Elt F) (Rect.unit (s := S32x1) ![0, 0] S32x1.size inb_S32x1_S32x1_0_0).toLoadRect f10)
      (arg10.view.readAt (Elt F) (Rect.unit (s := S32x1) ![0, 0] S32x1.size inb_S32x1_S32x1_0_0).toLoadRect f10)
      (arg11.view.readAt (Elt F) (Rect.unit (s := S32x1) ![0, 0] S32x1.size inb_S32x1_S32x1_0_0).toLoadRect f11)
      (arg4.view.readAt (Elt F) (Rect.unit (s := S2048x1024) ![0, 0] S2048x1024.size inb_S2048x1024_S2048x1024_0_0).toLoadRect f4)
      = dec i hc5 (arg6.view.read (Elt F) f6) (arg10.view.read (Elt F) f10) (arg11.view.read (Elt F) f11) (arg4.view.read (Elt F) f4) := by
  have e10 := arg10.view.readAt_full f10 inb_S32x1_S32x1_0_0
  have e11 := arg11.view.readAt_full f11 inb_S32x1_S32x1_0_0
  have e4 := arg4.view.readAt_full f4 inb_S2048x1024_S2048x1024_0_0
  rw [e10, e11, e4]
  rfl

set_option warn.classDefReducibility false in
/-- The exact selection loop: its working copy is the iterate, its outputs are those of the trip before. -/
def loopT2 (E : Set ℕ) (k0_h3 : k0_cond3 i = 1#1) (h : S128x32x128.Idx → Elt F .f32) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 k0_h3 k0_pay57 where
  inv k acc := iprop((∃ f, ⌜arg7.view.read (Elt F) f = iter h k⌝ ∗ arg7.view.loc (c : Thread nD τ) ↦[arg7.view.set]{fullShare} f)
    ∗ (∃ f, ⌜∀ j, k = j + 1 → arg10.view.read (Elt F) f = k0_pay6 (iter h j)⌝ ∗ arg10.view.loc (c : Thread nD τ) ↦[arg10.view.set]{fullShare} f)
    ∗ (∃ f, ⌜∀ j, k = j + 1 → arg11.view.read (Elt F) f = k0_pay7 k0_pay57 (iter h j)⌝ ∗ arg11.view.loc (c : Thread nD τ) ↦[arg11.view.set]{fullShare} f))
  step k acc := by
    have hk : k.val < 32 := Nat.lt_of_lt_of_le k.isLt k0_t2_abs.2.1
    unfold k0_t2_body
    iintro ⟨⟨%f7, %hf7, H7⟩, ⟨%f10, %hf10, H10⟩, ⟨%f11, %hf11, H11⟩⟩
    sl_exec
    sl_step
    have e7 := arg7.view.readAt_full f7 inb_S128x32x128_S128x32x128_0_0_0
    rw [hf7] at e7
    isplitl [H7]
    · iexists _; isplitr; swap
      · iexact H7
      ipureintro
      refine (View.read_writes_full _ _ _ _ _).trans ?_
      rw [iter_succ, ← e7]
    isplitl [H10]
    · iexists _; isplitr; swap
      · iexact H10
      ipureintro
      intro j hj
      obtain rfl : k.val = j := by omega
      refine (View.read_writes_full _ _ _ _ _).trans ?_
      rw [← e7]
    iexists _; isplitr; swap
    · iexact H11
    ipureintro
    intro j hj
    obtain rfl : k.val = j := by omega
    refine (View.read_writes_full _ _ _ _ _).trans ?_
    rw [← e7]

set_option maxHeartbeats 4000000 in
/-- A decoding point after the seventeenth adds its masked product to what the output window holds. -/
theorem run_decode (hc1 : ¬ k0_cond1 i = 1#1) (hc3 : ¬ k0_cond3 i = 1#1) (hc5 : k0_cond5 i = 1#1) (hc6 : ¬ k0_cond6 i = 1#1) (hc7 : k0_cond7 i = 1#1)
    (x4 : S2048x1024.Idx → Elt F .f32) (y : S32x2048.Idx → Elt F .f32) (h : S128x32x128.Idx → Elt F .f32) (T : S32x1.Idx → Elt F .f32) (I : S32x1.Idx → Elt F .i32)
    (E : Set ℕ) (K : PUnit → sProp 𝕄) :
    iprop(owns (c : Thread nD τ) arg4 fullShare x4 ∗ owns (c : Thread nD τ) arg5 fullShare y ∗ owns (c : Thread nD τ) arg6 fullShare h
        ∗ owns (c : Thread nD τ) arg10 fullShare T ∗ owns (c : Thread nD τ) arg11 fullShare I
        ∗ (iprop(owns (c : Thread nD τ) arg4 fullShare x4 ∗ owns (c : Thread nD τ) arg5 fullShare (addf y (dec i hc5 h T I x4)) ∗ owns (c : Thread nD τ) arg6 fullShare h
            ∗ owns (c : Thread nD τ) arg10 fullShare T ∗ owns (c : Thread nD τ) arg11 fullShare I) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part9_eq_skeleton]
  unfold owns
  iintro ⟨⟨%f4, %hf4, H4⟩, ⟨%f5, %hf5, H5⟩, ⟨%f6, %hf6, H6⟩, ⟨%f10, %hf10, H10⟩, ⟨%f11, %hf11, H11⟩, Hk⟩
  obtain rfl := harg4.eq_unread hf4; obtain rfl := harg5.eq_unread hf5; obtain rfl := harg6.eq_unread hf6
  obtain rfl := harg10.eq_unread hf10; obtain rfl := harg11.eq_unread hf11
  sl_exec (disch := first | sl_exact hc1 | sl_exact hc3 | sl_exact hc5 | sl_exact hc6 | sl_exact hc7)
  sl_step
  iapply Hk
  isplitl [H4]
  · iexists _; isplitr; swap
    · iexact H4
    ipureintro; exact hf4
  isplitl [H5]
  · iexists _; isplitr; swap
    · iexact H5
    ipureintro
    refine (View.read_writes_full _ _ _ _ _).trans ?_
    have e5 := arg5.view.readAt_full (harg5.unread y) inb_S32x2048_S32x2048_0_0
    have ed := dec_of_reads i arg4 arg6 arg10 arg11 hc5 (harg4.unread x4) (harg6.unread h) (harg10.unread T) (harg11.unread I)
    rw [hf5] at e5
    rw [hf4, hf6, hf10, hf11] at ed
    have es := Idealize.ShloMosaic.shapeCast_self y shapeCasts_S32x2048_S32x2048
    exact congrArg₂ addf ((congrArg (fun z => shapeCast S32x2048 z shapeCasts_S32x2048_S32x2048) e5).trans es) ed
  isplitl [H6]
  · iexists _; isplitr; swap
    · iexact H6
    ipureintro; exact hf6
  isplitl [H10]
  · iexists _; isplitr; swap
    · iexact H10
    ipureintro; exact hf10
  iexists _; isplitr; swap
  · iexact H11
  ipureintro; exact hf11

set_option maxHeartbeats 4000000 in
/-- The seventeenth point leaves a pair of thresholds satisfying `Pd`, given that a pair passing the check does and that
    the exact loop's does, and stores its masked product. -/
theorem run_select (hc1 : ¬ k0_cond1 i = 1#1) (hc3 : k0_cond3 i = 1#1) (hc5 : k0_cond5 i = 1#1) (hc6 : k0_cond6 i = 1#1) (hc7 : ¬ k0_cond7 i = 1#1)
    (x4 : S2048x1024.Idx → Elt F .f32) (h : S128x32x128.Idx → Elt F .f32)
    (Pd : (S32x1.Idx → Elt F .f32) → (S32x1.Idx → Elt F .i32) → Prop) (hfast : ∀ T I, ¬ badWord h T I = 1#1 → Pd T I)
    (hslow : Pd (k0_pay6 (iter h 31)) (k0_pay7 k0_pay57 (iter h 31)))
    (E : Set ℕ) (K : PUnit → sProp 𝕄) :
    iprop(owns (c : Thread nD τ) arg4 fullShare x4 ∗ (∃ y, owns (c : Thread nD τ) arg5 fullShare y) ∗ owns (c : Thread nD τ) arg6 fullShare h
        ∗ (∃ d, owns (c : Thread nD τ) arg7 fullShare d) ∗ (∃ d, owns (c : Thread nD τ) arg8 fullShare d) ∗ (∃ d, owns (c : Thread nD τ) arg9 fullShare d)
        ∗ (∃ T, owns (c : Thread nD τ) arg10 fullShare T) ∗ (∃ I, owns (c : Thread nD τ) arg11 fullShare I)
        ∗ (iprop(∃ T I, ⌜Pd T I⌝ ∗ owns (c : Thread nD τ) arg4 fullShare x4 ∗ owns (c : Thread nD τ) arg5 fullShare (dec i hc5 h T I x4) ∗ owns (c : Thread nD τ) arg6 fullShare h
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare T ∗ owns (c : Thread nD τ) arg11 fullShare I) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  let I2 := loopT2 c i arg1 harg1 arg2 harg2 arg3 harg3 arg4 harg4 arg5 harg5 arg6 harg6 arg7 harg7 arg8 harg8 arg9 harg9 arg10 harg10 arg11 harg11 E hc3 h
  simp only [cc0__body_eq_skeleton]; unfold cc0__body_skel
  simp only [k0_part8_eq_skeleton, k0_part9_eq_skeleton]
  unfold owns
  iintro ⟨⟨%f4, %hf4, H4⟩, ⟨%y, %f5, -, H5⟩, ⟨%f6, %hf6, H6⟩, ⟨%d7, %f7, -, H7⟩, ⟨%d8, %f8, -, H8⟩, ⟨%d9, %f9, -, H9⟩, ⟨%T0, %f10, -, H10⟩, ⟨%I0, %f11, -, H11⟩, Hk⟩
  obtain rfl := harg4.eq_unread hf4; obtain rfl := harg6.eq_unread hf6
  sl_exec (disch := first | sl_exact hc1 | sl_exact hc3 | sl_exact hc5 | sl_exact hc6 | sl_exact hc7)
  have e6 := arg6.view.readAt_full (harg6.unread h) inb_S128x32x128_S128x32x128_0_0_0
  rw [hf6] at e6
  have h70 : arg7.view.read (Elt F) (arg7.view.writes (Elt F) arg7.view.junk [⟨Rect.unit ![0, 0, 0] S128x32x128.size inb_S128x32x128_S128x32x128_0_0_0,
      k0_pay2 (arg6.view.readAt (Elt F) (Rect.unit ![0, 0, 0] S128x32x128.size inb_S128x32x128_S128x32x128_0_0_0).toLoadRect (harg6.unread h))⟩]) = iter h 0 := by
    refine (View.read_writes_full _ _ _ _ _).trans ?_
    rw [e6]
    exact Idealize.ShloMosaic.shapeCast_self _ _
  by_cases hb : Cert.Proof.Run.run_select.sl.v44 c i arg1 harg1 arg2 harg2 arg3 harg3 arg4 harg4 arg5 harg5 arg6 harg6 arg7 harg7 arg8 harg8 arg9 harg9 arg10 harg10 arg11 harg11 hc3 h f8 f9 f10 f11 = 1#1
  · sl_exec (disch := first | sl_exact hb | sl_exact hc1 | sl_exact hc3 | sl_exact hc5 | sl_exact hc6 | sl_exact hc7)
    sl_step
    have ed := dec_of_reads i arg4 arg6 arg10 arg11 hc5 (harg4.unread x4) (harg6.unread h) fL1 fL2
    rw [hf4, hf6] at ed
    iapply Hk
    iexists (arg10.view.read (Elt F) fL1)
    iexists (arg11.view.read (Elt F) fL2)
    isplitr
    · ipureintro
      rw [hL2 31 (by decide), hL4 31 (by decide)]
      exact hslow
    isplitl [H4]
    · iexists _; isplitr; swap
      · iexact H4
      ipureintro; exact hf4
    isplitl [H5]
    · iexists _; isplitr; swap
      · iexact H5
      ipureintro
      refine (View.read_writes_full _ _ _ _ _).trans ?_
      exact ed
    isplitl [H6]
    · iexists _; isplitr; swap
      · iexact H6
      ipureintro; exact hf6
    isplitl [H7]
    · iexists _; iexists _; isplitr; swap
      · iexact H7
      ipureintro; rfl
    isplitl [H8]
    · iexists _; iexists _; isplitr; swap
      · iexact H8
      ipureintro; rfl
    isplitl [H9]
    · iexists _; iexists _; isplitr; swap
      · iexact H9
      ipureintro; rfl
    isplitl [H10]
    · iexists _; isplitr; swap
      · iexact H10
      ipureintro; rfl
    iexists _; isplitr; swap
    · iexact H11
    ipureintro; rfl
  · sl_exec (disch := first | sl_exact hb | sl_exact hc1 | sl_exact hc3 | sl_exact hc5 | sl_exact hc6 | sl_exact hc7)
    sl_step
    obtain ⟨F10, hF10⟩ : ∃ G, G = arg10.view.writes (Elt F) f10 (st_k0_t1 Variants.none c none i arg1 harg1 arg2 harg2 arg3 harg3 arg4 harg4 arg5 harg5 arg6 harg6 arg7 harg7 arg8 harg8 arg9 harg9 arg10 harg10 arg11 harg11 hc3 (arg9.view.readAt (Elt F) (Rect.unit ![0, 0, 0] S8x32x128.size inb_S8x32x128_S8x32x128_0_0_0).toLoadRect f9)
        (arg8.view.readAt (Elt F) (Rect.unit ![0, 0, 0] S8x32x128.size inb_S8x32x128_S8x32x128_0_0_0).toLoadRect f8) (Scf.trips k0_t1_loop.lb k0_t1_loop.ub k0_t1_loop.st)).2.1 := ⟨_, rfl⟩
    obtain ⟨F11, hF11⟩ : ∃ G, G = arg11.view.writes (Elt F) f11 (st_k0_t1 Variants.none c none i arg1 harg1 arg2 harg2 arg3 harg3 arg4 harg4 arg5 harg5 arg6 harg6 arg7 harg7 arg8 harg8 arg9 harg9 arg10 harg10 arg11 harg11 hc3 (arg9.view.readAt (Elt F) (Rect.unit ![0, 0, 0] S8x32x128.size inb_S8x32x128_S8x32x128_0_0_0).toLoadRect f9)
        (arg8.view.readAt (Elt F) (Rect.unit ![0, 0, 0] S8x32x128.size inb_S8x32x128_S8x32x128_0_0_0).toLoadRect f8) (Scf.trips k0_t1_loop.lb k0_t1_loop.ub k0_t1_loop.st)).2.2 := ⟨_, rfl⟩
    have e10 := arg10.view.readAt_full F10 inb_S32x1_S32x1_0_0
    have e11 := arg11.view.readAt_full F11 inb_S32x1_S32x1_0_0
    have hb' : ¬ badWord h (arg10.view.read (Elt F) F10) (arg11.view.read (Elt F) F11) = 1#1 := by
      intro hx
      apply hb
      refine Eq.trans ?_ hx
      rw [← e10, ← e11]
      refine Eq.trans ?_ (congrArg (fun z => badWord z _ _) e6)
      rw [hF10, hF11]
      rfl
    have ed := dec_of_reads i arg4 arg6 arg10 arg11 hc5 (harg4.unread x4) (harg6.unread h) F10 F11
    rw [hf4, hf6] at ed
    iapply Hk
    iexists (arg10.view.read (Elt F) F10)
    iexists (arg11.view.read (Elt F) F11)
    isplitr
    · ipureintro
      exact hfast _ _ hb'
    isplitl [H4]
    · iexists _; isplitr; swap
      · iexact H4
      ipureintro; exact hf4
    isplitl [H5]
    · iexists _; isplitr; swap
      · iexact H5
      ipureintro
      refine (View.read_writes_full _ _ _ _ _).trans ?_
      subst hF10 hF11
      exact ed
    isplitl [H6]
    · iexists _; isplitr; swap
      · iexact H6
      ipureintro; exact hf6
    isplitl [H7]
    · iexists _; iexists _; isplitr; swap
      · iexact H7
      ipureintro; rfl
    isplitl [H8]
    · iexists _; iexists _; isplitr; swap
      · iexact H8
      ipureintro; rfl
    isplitl [H9]
    · iexists _; iexists _; isplitr; swap
      · iexact H9
      ipureintro; rfl
    isplitl [H10]
    · iexists F10; isplitr; swap
      · rw [hF10]; iexact H10
      ipureintro; rfl
    iexists F11; isplitr; swap
    · rw [hF11]; iexact H11
    ipureintro; rfl

end

end Cert.Proof.Run

end
-- ==== Proof.RunLaunch.lean ====
module

public import proofs.«01_k».proof.Proof.RunEncode
public import proofs.«01_k».proof.Proof.RunDecode
public import Idealize.ShloMosaic.Lib.Pipeline.DatRel
public import Idealize.ShloMosaic.Lib.Pipeline.ArrRel

/-! The launch: the body's runs at the 32 points put together under one invariant over the kernel's scratch. -/

@[expose] public section

noncomputable section

namespace Cert.Proof.Run

open Cert.KernelIdeal Cert.KernelIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf RDat BodyObligationRel)

variable {F : FTy → Type} [FloatOps F]

local notation "𝕄" => MT nD τ sig Unit (Elt F) ℕ (UR sig nD τ) ℕ

/-! ## Which branches a point takes -/

/-- The points that encode. -/
theorem cond1_iff : ∀ i : grid0.Coords, k0_cond1 i = 1#1 ↔ (i 0).val < 16 := by decide +kernel
/-- The point that selects. -/
theorem cond3_iff : ∀ i : grid0.Coords, k0_cond3 i = 1#1 ↔ (i 0).val = 16 := by decide +kernel
/-- The points that decode. -/
theorem cond5_iff : ∀ i : grid0.Coords, k0_cond5 i = 1#1 ↔ 16 ≤ (i 0).val := by decide +kernel
/-- The decoding point that starts the result. -/
theorem cond6_iff : ∀ i : grid0.Coords, k0_cond6 i = 1#1 ↔ (i 0).val = 16 := by decide +kernel
/-- The decoding points that add to it. -/
theorem cond7_iff : ∀ i : grid0.Coords, k0_cond7 i = 1#1 ↔ 16 < (i 0).val := by decide +kernel
/-- A point's one coordinate is its number. -/
theorem coords_val : ∀ t : Fin cfg0.N, ((cfg0.grid.coords t) 0).val = t.val :=
  (by decide +kernel : ∀ t : Fin grid0.N, ((grid0.coords t) 0).val = t.val)

/-- Agreement on all 128 tiles is equality. -/
theorem agree_all {H h : S128x32x128.Idx → Elt F .f32} (e : Agree H (8 * 16) h) : h = H :=
  funext fun x => e x (x 0).isLt

section

variable (m : (ℓ : Loc nD τ sig) → Buf (Elt F) ℓ) (c : Dev nD)

/-- The point that encodes lane tile `k`. -/
def encPt (k : Fin 128) : Fin cfg0.N := ⟨k.val / 8, by have := k.isLt; have h : cfg0.N = 32 := N_0; omega⟩

/-- The hidden layer as the encoding points lay it out: lane tile, row, lane. -/
def Hf : S128x32x128.Idx → Elt F .f32 := fun x =>
  k0_pay10 (iblk m c 0 (encPt (x 0))) (iblk m c 1 (encPt (x 0))) (iblk m c 2 (encPt (x 0)))
    (ix2 (x 1) ⟨((x 0).val % 8) * 128 + (x 2).val, by
      have h : (x 2).val < 128 := (x 2).isLt
      have := Nat.mod_lt (x 0).val (y := 8) (by omega)
      omega⟩)

/-- The hidden layer at an index whose tile belongs to point `t`. -/
theorem Hf_eq {x : S128x32x128.Idx} {t : Fin cfg0.N} {n : ℕ} (ht : (x 0).val / 8 = t.val) (hn : (x 0).val % 8 * 128 + (x 2).val = n) (hlt : n < 1024) :
    Hf m c x = k0_pay10 (iblk m c 0 t) (iblk m c 1 t) (iblk m c 2 t) (ix2 (x 1) ⟨n, hlt⟩) := by
  obtain rfl : encPt (x 0) = t := Fin.ext ht
  subst hn
  rfl

variable (Pd : (S32x1.Idx → Elt F .f32) → (S32x1.Idx → Elt F .i32) → Prop) (R : ℕ → (S32x2048.Idx → Elt F .f32) → Prop)

/-- What the kernel's scratch holds before point `n`. -/
def Phi (n : ℕ) : sProp 𝕄 :=
  iprop((∃ h, ⌜Agree (Hf m c) (8 * min n 16) h⌝ ∗ owns (c : Thread nD τ) (Memref.whole cc0_scratch0) fullShare h)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ T I, ⌜16 < n → Pd T I⌝ ∗ owns (c : Thread nD τ) (Memref.whole cc0_scratch4) fullShare T ∗ owns (c : Thread nD τ) (Memref.whole cc0_scratch5) fullShare I)
    ∗ ∃ r, prngReg c r)

/-- The proof data: every input window keeps its block; what the output window holds is given by `R`. -/
def dat : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Dat.unnamed (Val := Elt F) (cfg := cfg0) 4 t
  Φ t := Phi m c Pd t.val
  q _ := fullShare
  owed _ := 0

/-- Which windows are held to a relation: the output's. -/
def fgt : Fin cfg0.W → Bool := ![false, false, false, false, true]

/-- The output window's relation after a point. -/
def Rl (w : Fin cfg0.W) (t : Fin cfg0.N) (X : (cfg0.win w).block.Idx → Elt F (cfg0.win w).elt) : Prop :=
  ∀ h : w = 4, 16 ≤ t.val → R t.val (by subst h; exact X)

variable (hfast : ∀ T I, ¬ badWord (Hf m c) T I = 1#1 → Pd T I)
  (hslow : Pd (k0_pay6 (iter (Hf m c) 31)) (k0_pay7 k0_pay57 (iter (Hf m c) 31)))
  (hR0 : ∀ (t : Fin cfg0.N) (h5 : k0_cond5 (grid0.coords t) = 1#1) T I, t.val = 16 → Pd T I → R 16 (dec (grid0.coords t) h5 (Hf m c) T I (iblk m c 3 t)))
  (hRs : ∀ (t : Fin cfg0.N) (h5 : k0_cond5 (grid0.coords t) = 1#1) T I Y, 16 < t.val → Pd T I → R (t.val - 1) Y →
    R t.val (addf Y (dec (grid0.coords t) h5 (Hf m c) T I (iblk m c 3 t))))

/-- What point `t` finds. -/
def Pre (t : Fin cfg0.N) : sProp 𝕄 :=
  iprop(Phi m c Pd t.val
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ ∃ Y, ⌜16 < t.val → R (t.val - 1) Y⌝ ∗ owns (c : Thread nD τ) (st0_4 t) fullShare Y)

/-- What point `t` leaves. -/
def Post (t : Fin cfg0.N) : sProp 𝕄 :=
  iprop(Phi m c Pd (t.val + 1)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ ∃ Y, ⌜16 ≤ t.val → R t.val Y⌝ ∗ owns (c : Thread nD τ) (st0_4 t) fullShare Y)

include hfast hslow hR0 hRs in
set_option maxHeartbeats 2000000 in
/-- The body at point `t`. -/
theorem body_at (t : Fin cfg0.N) (E : Set ℕ) :
    Pre m c Pd R t ⊢ wp Idealize.ShloMosaic.frame (wpE (defs₀ (F := F)) Variants.none c none) E (bodyAt0 (F := F) t) fun _ => Post m c Pd R t := by
  have hN : cfg0.N = 32 := N_0
  have htl := t.isLt
  have hcv : ((grid0.coords t) 0).val = t.val := coords_val t
  unfold Pre Post Phi
  iintro ⟨⟨⟨%h, %hh, H6⟩, H7, H8, H9, ⟨%T, %I, %hPd, H10, H11⟩, Hp⟩, H1, H2, H3, H4, ⟨%Y, %hY, H5⟩⟩
  rcases lt_trichotomy t.val 16 with ht | ht | ht
  · have hc1 : k0_cond1 (grid0.coords t) = 1#1 := (cond1_iff _).mpr (hcv ▸ ht)
    have hc3 : ¬ k0_cond3 (grid0.coords t) = 1#1 := fun e => by have h3 := (cond3_iff _).mp e; rw [hcv] at h3; omega
    have hc5 : ¬ k0_cond5 (grid0.coords t) = 1#1 := fun e => by have h3 := (cond5_iff _).mp e; rw [hcv] at h3; omega
    iapply (run_encode c (grid0.coords t) _ _ _ _ _ _ _ _ _ _ _ _ _ _ _ _ _ _ _ _ _ _ hc1 hc3 hc5 (iblk m c 0 t) (iblk m c 1 t) (iblk m c 2 t) (Hf m c) h
      (by rw [hcv]; rw [min_eq_left (by omega)] at hh; exact hh) (by
        intro k hk hn r l
        exact (Hf_eq m c (x := ix3 ⟨8 * ((grid0.coords t) 0).val + k, hn⟩ r l) (t := t) (n := k * 128 + l.val) (by
          show (8 * ((grid0.coords t) 0).val + k) / 8 = t.val
          rw [hcv]; omega) (by
          show (8 * ((grid0.coords t) 0).val + k) % 8 * 128 + l.val = _
          rw [hcv]; have : (8 * t.val + k) % 8 = k := by omega
          rw [this]) _).symm) E)
    isplitl [H1]; · iexact H1
    isplitl [H2]; · iexact H2
    isplitl [H3]; · iexact H3
    isplitl [H6]; · iexact H6
    isplitl [H8]; · iexact H8
    isplitl [H9]; · iexact H9
    iintro ⟨H1, H2, H3, ⟨%h', %hh', H6⟩, H8, H9⟩
    isplitl [H6 H7 H8 H9 H10 H11 Hp]
    · isplitl [H6]
      · iexists h'; isplitr
        · ipureintro
          rw [hcv] at hh'
          rw [min_eq_left (by omega)]; exact hh'
        iexact H6
      isplitl [H7]; · iexact H7
      isplitl [H8]; · iexact H8
      isplitl [H9]; · iexact H9
      isplitl [H10 H11]
      · iexists T; iexists I; isplitr
        · ipureintro; intro hlt; omega
        isplitl [H10]; · iexact H10
        iexact H11
      iexact Hp
    isplitl [H1]; · iexact H1
    isplitl [H2]; · iexact H2
    isplitl [H3]; · iexact H3
    isplitl [H4]; · iexact H4
    iexists Y; isplitr
    · ipureintro; intro hle; omega
    iexact H5
  · have hc1 : ¬ k0_cond1 (grid0.coords t) = 1#1 := fun e => by have h3 := (cond1_iff _).mp e; rw [hcv] at h3; omega
    have hc3 : k0_cond3 (grid0.coords t) = 1#1 := (cond3_iff _).mpr (by rw [hcv]; omega)
    have hc5 : k0_cond5 (grid0.coords t) = 1#1 := (cond5_iff _).mpr (by rw [hcv]; omega)
    have hc6 : k0_cond6 (grid0.coords t) = 1#1 := (cond6_iff _).mpr (by rw [hcv]; omega)
    have hc7 : ¬ k0_cond7 (grid0.coords t) = 1#1 := fun e => by have h3 := (cond7_iff _).mp e; rw [hcv] at h3; omega
    obtain rfl : h = Hf m c := agree_all (by rw [min_eq_right (by omega)] at hh; exact hh)
    iapply (run_select c (grid0.coords t) _ _ _ _ _ _ _ _ _ _ _ _ _ _ _ _ _ _ _ _ _ _ hc1 hc3 hc5 hc6 hc7 (iblk m c 3 t) (Hf m c) Pd hfast hslow E)
    isplitl [H4]; · iexact H4
    isplitl [H5]; · iexists Y; iexact H5
    isplitl [H6]; · iexact H6
    isplitl [H7]; · iexact H7
    isplitl [H8]; · iexact H8
    isplitl [H9]; · iexact H9
    isplitl [H10]; · iexists T; iexact H10
    isplitl [H11]; · iexists I; iexact H11
    iintro ⟨%T', %I', %hPd', H4, H5, H6, H7, H8, H9, H10, H11⟩
    isplitl [H6 H7 H8 H9 H10 H11 Hp]
    · isplitl [H6]
      · iexists Hf m c; isplitr
        · ipureintro; intro x _; rfl
        iexact H6
      isplitl [H7]; · iexact H7
      isplitl [H8]; · iexact H8
      isplitl [H9]; · iexact H9
      isplitl [H10 H11]
      · iexists T'; iexists I'; isplitr
        · ipureintro; intro _; exact hPd'
        isplitl [H10]; · iexact H10
        iexact H11
      iexact Hp
    isplitl [H1]; · iexact H1
    isplitl [H2]; · iexact H2
    isplitl [H3]; · iexact H3
    isplitl [H4]; · iexact H4
    iexists _; isplitr
    rotate_left
    · iexact H5
    ipureintro; intro _; rw [ht]; exact hR0 t hc5 T' I' ht hPd'
  · have hc1 : ¬ k0_cond1 (grid0.coords t) = 1#1 := fun e => by have h3 := (cond1_iff _).mp e; rw [hcv] at h3; omega
    have hc3 : ¬ k0_cond3 (grid0.coords t) = 1#1 := fun e => by have h3 := (cond3_iff _).mp e; rw [hcv] at h3; omega
    have hc5 : k0_cond5 (grid0.coords t) = 1#1 := (cond5_iff _).mpr (by rw [hcv]; omega)
    have hc6 : ¬ k0_cond6 (grid0.coords t) = 1#1 := fun e => by have h3 := (cond6_iff _).mp e; rw [hcv] at h3; omega
    have hc7 : k0_cond7 (grid0.coords t) = 1#1 := (cond7_iff _).mpr (by rw [hcv]; omega)
    obtain rfl : h = Hf m c := agree_all (by rw [min_eq_right (by omega)] at hh; exact hh)
    iapply (run_decode c (grid0.coords t) _ _ _ _ _ _ _ _ _ _ _ _ _ _ _ _ _ _ _ _ _ _ hc1 hc3 hc5 hc6 hc7 (iblk m c 3 t) Y (Hf m c) T I E)
    isplitl [H4]; · iexact H4
    isplitl [H5]; · iexact H5
    isplitl [H6]; · iexact H6
    isplitl [H10]; · iexact H10
    isplitl [H11]; · iexact H11
    iintro ⟨H4, H5, H6, H10, H11⟩
    isplitl [H6 H7 H8 H9 H10 H11 Hp]
    · isplitl [H6]
      · iexists Hf m c; isplitr
        · ipureintro; intro x _; rfl
        iexact H6
      isplitl [H7]; · iexact H7
      isplitl [H8]; · iexact H8
      isplitl [H9]; · iexact H9
      isplitl [H10 H11]
      · iexists T; iexists I; isplitr
        · ipureintro; intro _; exact hPd ht
        isplitl [H10]; · iexact H10
        iexact H11
      iexact Hp
    isplitl [H1]; · iexact H1
    isplitl [H2]; · iexact H2
    isplitl [H3]; · iexact H3
    isplitl [H4]; · iexact H4
    iexists _; isplitr
    rotate_left
    · iexact H5
    ipureintro; intro _; exact hRs t hc5 T I Y ht (hPd ht) (hY ht)

/-- The program the pipeline runs at point `t` is the body on that point's staging buffers. -/
theorem row_body (t : Fin cfg0.N) : (defs₀ (F := F)) .tc cfg0.body (cfg0.bodyArgs t (cfg0.slots t)) = bodyAt0 t := by
  unfold defs₀; rw [Defs.onTc_tc]

/-- What the output window may hold before a point after the first decoding one. -/
theorem finds_out (t : Fin cfg0.N) (ht : 16 < t.val) (Y : (cfg0.win 4).block.Idx → Elt F (cfg0.win 4).elt)
    (h : ((dat m c Pd).toRRel fgt (Rl R)).Finds 4 t Y) : R (t.val - 1) Y := by
  have hN : cfg0.N = 32 := N_0
  have htl := t.isLt
  have h' := (RDat.finds_of_pos _ rfl (by omega) Y).mp h
  rcases h' with hfl | hl
  · have := (flush0_4 _).mp hfl
    simp only at this; omega
  · exact (dat m c Pd).toRRel_leaves (w := 4) rfl hl rfl (by show 16 ≤ t.val - 1; omega)

include hfast hslow hR0 hRs in
/-- The body meets its obligation at every point. -/
theorem body_obligation : BodyObligationRel (dat m c Pd) (defs₀ (F := F)) Variants.none () Set.univ fgt (Rl R) := by
  intro t
  refine triple_restated ((BI.sep_mono (body_at m c Pd R hfast hslow hR0 hRs t Set.univ) (.rfl : (dat m c Pd).owesAt () t.castSucc ⊢ (dat m c Pd).owesAt () t.castSucc)).trans
    (wp_frame_r _ _ _)) (congrArg _ (row_body t).symm) ?_ ?_
  · rw [bigSep_W0]
    show iprop(Phi m c Pd t.val ∗ (dat m c Pd).owesAt () t.castSucc
      ∗ (∃ d, owns (c : Thread nD τ) (st0_0 t) fullShare ((dat m c Pd).before 0 t d)) ∗ (∃ d, owns (c : Thread nD τ) (st0_1 t) fullShare ((dat m c Pd).before 1 t d))
      ∗ (∃ d, owns (c : Thread nD τ) (st0_2 t) fullShare ((dat m c Pd).before 2 t d)) ∗ (∃ d, owns (c : Thread nD τ) (st0_3 t) fullShare ((dat m c Pd).before 3 t d))
      ∗ ∃ Y, ⌜((dat m c Pd).toRRel fgt (Rl R)).Finds 4 t Y⌝ ∗ owns (c : Thread nD τ) (st0_4 t) fullShare Y)
      ⊢ iprop(Pre m c Pd R t ∗ (dat m c Pd).owesAt () t.castSucc)
    unfold Pre
    iintro ⟨HP, HO, ⟨%d0, H0⟩, ⟨%d1, H1⟩, ⟨%d2, H2⟩, ⟨%d3, H3⟩, ⟨%Y, %hY, H4⟩⟩
    rw [before0_0_of m (dat m c Pd) rfl (fun _ => rfl) t d0, before0_1_of m (dat m c Pd) rfl (fun _ => rfl) t d1,
      before0_2_of m (dat m c Pd) rfl (fun _ => rfl) t d2, before0_3_of m (dat m c Pd) rfl (fun _ => rfl) t d3]
    isplitr [HO]
    rotate_left
    · iexact HO
    isplitl [HP]; · iexact HP
    isplitl [H0]; · iexact H0
    isplitl [H1]; · iexact H1
    isplitl [H2]; · iexact H2
    isplitl [H3]; · iexact H3
    iexists Y; isplitr
    · ipureintro; intro ht; exact finds_out m c Pd R t ht Y hY
    iexact H4
  · intro a
    rw [bigSep_W0]
    show iprop(Post m c Pd R t ∗ (dat m c Pd).owesAt () t.castSucc) ⊢ iprop(Phi m c Pd (t.val + 1) ∗ (dat m c Pd).owesAt () t.succ
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ ∃ Y, ⌜Rl R 4 t Y⌝ ∗ owns (c : Thread nD τ) (st0_4 t) fullShare Y)
    unfold Post
    iintro ⟨⟨HP, H0, H1, H2, H3, ⟨%Y, %hY, H4⟩⟩, HO⟩
    isplitl [HP]; · iexact HP
    isplitl [HO]; · iexact HO
    isplitl [H0]; · iexact H0
    isplitl [H1]; · iexact H1
    isplitl [H2]; · iexact H2
    isplitl [H3]; · iexact H3
    iexists Y; isplitr
    · ipureintro; intro _; exact hY
    iexact H4

/-- Before the first point the scratch holds anything. -/
theorem enter : Pipeline.ΦA spec0 c ⊢ (dat m c Pd).Φ 0 := by
  show Pipeline.ΦA spec0 c ⊢ Phi m c Pd 0
  unfold Pipeline.ΦA Phi
  rw [scopedRest0_eq c]
  simp only [owns_whole]
  iintro ⟨⟨⟨%f0, H0⟩, H1, H2, H3, ⟨%f4, H4⟩, ⟨%f5, H5⟩⟩, Hp⟩
  isplitl [H0]
  · iexists f0; isplitr
    · ipureintro; intro x hx; exact absurd hx (by simp)
    iexact H0
  isplitl [H1]; · iexact H1
  isplitl [H2]; · iexact H2
  isplitl [H3]; · iexact H3
  isplitl [H4 H5]
  · iexists f4; iexists f5; isplitr
    · ipureintro; intro h; omega
    isplitl [H4]; · iexact H4
    iexact H5
  iexact Hp

/-- After the last point what the scratch holds is forgotten. -/
theorem leave : (dat m c Pd).Φ (Fin.last cfg0.N) ⊢ Pipeline.ΦA spec0 c := by
  show Phi m c Pd _ ⊢ Pipeline.ΦA spec0 c
  unfold Pipeline.ΦA Phi
  rw [scopedRest0_eq c]
  simp only [owns_whole]
  iintro ⟨⟨%h, %hh, H0⟩, H1, H2, H3, ⟨%T, %I, %hPd, H4, H5⟩, Hp⟩
  isplitr [Hp]
  rotate_left
  · iexact Hp
  isplitl [H0]; · iexists h; iexact H0
  isplitl [H1]; · iexact H1
  isplitl [H2]; · iexact H2
  isplitl [H3]; · iexact H3
  isplitl [H4]; · iexists T; iexact H4
  iexists I; iexact H5

end

section

variable (m : (ℓ : Loc nD τ sig) → Buf (Elt F) ℓ) (ρ : Dev nD → PrngReg)
variable (Pd : Dev nD → (S32x1.Idx → Elt F .f32) → (S32x1.Idx → Elt F .i32) → Prop) (R : Dev nD → ℕ → (S32x2048.Idx → Elt F .f32) → Prop)

/-- The relational data of the run. -/
abbrev rdat (c : Dev nD) : RDat τ (Elt F) Unit ℕ (UR sig nD τ) ℕ cfg0 c := (dat m c (Pd c)).toRRel fgt (Rl (R c))

/-- The last point. -/
def lastPt : Fin cfg0.N := ⟨31, by have h : cfg0.N = 32 := N_0; omega⟩

/-- THE RUN. If a selection passing the check meets `Pd`, the fallback's selection meets `Pd`, and `R` holds of what the first decoding
    point writes and is kept by each later one, the whole run ends with every counter at zero, the arguments as launched, and the result
    array meeting `R` at the last point. -/
theorem run_main
    (hfast : ∀ c T I, ¬ badWord (Hf m c) T I = 1#1 → Pd c T I)
    (hslow : ∀ c, Pd c (k0_pay6 (iter (Hf m c) 31)) (k0_pay7 k0_pay57 (iter (Hf m c) 31)))
    (hR0 : ∀ c (t : Fin cfg0.N) (h5 : k0_cond5 (grid0.coords t) = 1#1) T I, t.val = 16 → Pd c T I → R c 16 (dec (grid0.coords t) h5 (Hf m c) T I (iblk m c 3 t)))
    (hRs : ∀ c (t : Fin cfg0.N) (h5 : k0_cond5 (grid0.coords t) = 1#1) T I Y, 16 < t.val → Pd c T I → R c (t.val - 1) Y →
      R c t.val (addf Y (dec (grid0.coords t) h5 (Hf m c) T I (iblk m c 3 t)))) :
    θ_run defs (onTc (τ := τ) (main (F := F))) ⟨m, fun _ => 0, ρ⟩ (fun r =>
      (∀ c : Dev nD,
        R c 31 (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine Pipeline.RDat.θ_run_frame_track cfgs 0 launch0 defs₀ Variants.none (rdat m Pd R) m ρ main
    (fun c => (body_obligation m c (Pd c) (R c) (hfast c) (hslow c) (hR0 c) (hRs c)).toRRel)
    (fun c w => by fin_cases w <;> rfl) (fun c t => rfl) (V m) (hmain m Variants.none) (fun c w => rfl)
    (fun c => enter m c (Pd c)) (fun c => leave m c (Pd c)) _ ?_
  rintro r ⟨h, hsem⟩
  refine ⟨fun c => ⟨?_, ?_, ?_, ?_, ?_⟩, hsem⟩
  · obtain ⟨X, hX, hG⟩ := RDat.ArrAt.emb_eq_of_wholeAt (w := 4) ((h c).1 4) (t₀ := lastPt) (by decide +kernel)
    have hRX := (dat m c (Pd c)).toRRel_leaves (w := 4) rfl hX rfl (by show 16 ≤ 31; omega)
    have e : r.2.mem ((c.tc : Thread nD τ).loc main_v1) = X := funext fun j => hG j
    rw [e]; exact hRX
  · exact (h.arr_in c 0 rfl).trans (V_main_arg0 m c)
  · exact (h.arr_in c 1 rfl).trans (V_main_arg1 m c)
  · exact ((h c).2 main_arg2 (Pipeline.mem_restRefs_of main_arg2 (by decide) (by decide))).trans (V_main_arg2 m c)
  · exact (h.arr_in c 3 rfl).trans (V_main_arg3 m c)

/-- The frame: from any launch memory the run ends with every counter at zero and the arguments as launched. -/
theorem run_frame :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩)
    (run_main m ρ (fun _ _ _ => True) (fun _ _ _ => True) (fun _ _ _ _ => trivial) (fun _ => trivial) (fun _ _ _ _ _ _ _ => trivial)
      (fun _ _ _ _ _ _ _ _ _ => trivial))

end

end Cert.Proof.Run

end
-- ==== Proof.RunKernel.lean ====
module

public import proofs.«01_k».proof.Defs
public import proofs.«01_k».proof.Proof.RunLaunch
public import proofs.«01_k».proof.Proof.Gen.Kernel.Frame

/-! The kernel as printed and its idealization have the same text. The frame of the first is the second's, read at the machine's floats. -/

@[expose] public section

noncomputable section

namespace Cert.Proof.Run

open Idealize.ShloMosaic Idealize.ShloMosaic.TcCoe Idealize.SL.Sem

attribute [local instance] Cert.KernelIdeal.Gen.facts Cert.Kernel.Gen.facts

/-- The two programs' body tables are one table. -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc ?_
  funext l p
  match l, p with
  | 0, _ => rfl

/-- The kernel as printed runs, returns its arguments unchanged and every counter to zero. -/
theorem kernel_frame : Cert.quiescent_Kernel (hKernel := Cert.Kernel.Gen.facts) := fun m g _ => by
  have e : Cert.Kernel.defs (F := Bits) = Cert.KernelIdeal.defs (F := Bits) := congrArg (Pipeline.defs _) defs₀_same
  rw [e]
  exact run_frame (F := Bits) m g

end Cert.Proof.Run

end
-- ==== Proof.RunRef.lean ====
module

public import proofs.«01_k».proof.Defs
public import proofs.«01_k».proof.Proof.RunLaunch
public import proofs.«01_k».proof.Proof.Gen.ReferenceIdeal.Run
public import Idealize.ShloMosaic.Lib.Quiescent

/-! The frames of the idealized kernel and of the idealized reference. -/

@[expose] public section

noncomputable section

namespace Cert.Proof.Run

open Idealize.ShloMosaic Idealize.ShloMosaic.TcCoe Idealize.SL.Sem

/-- The idealized kernel runs, returns its arguments unchanged and every counter to zero. -/
theorem kernelIdeal_frame : Cert.quiescent_KernelIdeal (hKernelIdeal := Cert.KernelIdeal.Gen.facts) := fun m g _ =>
  run_frame (F := Ideal) m g

/-- The idealized reference runs and returns its arguments unchanged. The program has no counter, so every counter is zero. -/
theorem reference_frame : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run m g)

end Cert.Proof.Run

end
-- ==== Proof.KerFold.lean ====
module

public import proofs.«01_k».proof.Proof.Gen.KernelIdeal
public import Idealize.ShloMosaic.PureOps.Ideal.Laws
public import Idealize.ShloMosaic.PureOps.Reduce
public import Idealize.ShloMosaic.Lib.SortNet.Extract
public import Idealize.ShloMosaic.Lib.Pointwise
public import Idealize.ShloMosaic.Lib.Pointwise.IndexBridge

/-! The kernel's three reductions over a row of its `[128, 32, 128]` working array — the greatest entry, the least word,
the number of set flags — as folds over the row's 16384 columns. -/

@[expose] public section

noncomputable section

namespace Cert.Proof.Ker

open Cert.KernelIdeal Cert.KernelIdeal.Gen
open Idealize.ShloMosaic

/-- Where the working array holds column `j` of row `r`: lane `j % 128` of tile `j / 128`. -/
def cell (r : Fin 32) : Fin 16384 ↪ S128x32x128.Idx where
  toFun j := ix3 (⟨j.val / 128, by omega⟩ : Fin 128) r (⟨j.val % 128, by omega⟩ : Fin 128)
  inj' a b h := by
    have h0 : a.val / 128 = b.val / 128 := congrArg (fun i : S128x32x128.Idx => (i 0).val) h
    have h2 : a.val % 128 = b.val % 128 := congrArg (fun i : S128x32x128.Idx => (i 2).val) h
    exact Fin.ext (by omega)

/-- The cell of a column, at coordinates. -/
theorem cell_apply (r : Fin 32) (j : Fin 16384) :
    cell r j = ix3 (⟨j.val / 128, by omega⟩ : Fin 128) r (⟨j.val % 128, by omega⟩ : Fin 128) := rfl

/-- Row `r` of the working array, by columns. -/
def line {α : Type} (v : S128x32x128.Idx → α) (r : Fin 32) (j : Fin 16384) : α := v (cell r j)

/-- The indices a reduction over tiles and lanes gathers for row `r` are that row's cells. -/
theorem filter_drop (h : S128x32x128.Reduces [0, 2] S32) (r : Fin 32) :
    (Finset.univ.filter fun i => h.drop i = (ix1 r : S32.Idx)) = Finset.univ.map (cell r) := by
  ext i
  simp only [Finset.mem_filter, Finset.mem_univ, true_and, Finset.mem_map]
  have hv : (h.drop i 0 : ℕ) = (i 1).val := h.drop_apply_val_of_eq i 0 1
  constructor
  · intro hi
    have h1 : (i 1).val = r.val := by rw [← hv, hi]; rfl
    have b0 : (i 0).val < 128 := (i 0).isLt
    have b2 : (i 2).val < 128 := (i 2).isLt
    refine ⟨⟨(i 0).val * 128 + (i 2).val, by omega⟩, ?_⟩
    funext a
    match a with
    | ⟨0, _⟩ => exact Fin.ext (show ((i 0).val * 128 + (i 2).val) / 128 = (i 0).val by omega)
    | ⟨1, _⟩ => exact Fin.ext h1.symm
    | ⟨2, _⟩ => exact Fin.ext (show ((i 0).val * 128 + (i 2).val) % 128 = (i 2).val by omega)
  · rintro ⟨j, rfl⟩
    funext a
    match a with
    | ⟨0, _⟩ => exact Fin.ext hv

/-- A fold over row `r`'s indices is the fold over its columns. -/
theorem fold_row {α : Type} (op : α → α → α) [Std.Commutative op] [Std.Associative op] (h : S128x32x128.Reduces [0, 2] S32) (b : α)
    (v : S128x32x128.Idx → α) (r : Fin 32) :
    (Finset.univ.filter fun i => h.drop i = (ix1 r : S32.Idx)).fold op b v = Finset.univ.fold op b (line v r) := by
  rw [filter_drop, Finset.fold_map]
  rfl

/-- The fold of `max` from the least element is an upper bound, and one of the entries. -/
theorem fold_max_bot {n : ℕ} (hn : 0 < n) (f : Fin n → EReal) :
    (∀ j, f j ≤ Finset.univ.fold max ⊥ f) ∧ ∃ j, f j = Finset.univ.fold max ⊥ f := by
  have e : Finset.univ.fold max ⊥ f = Finset.univ.sup f := rfl
  rw [e]
  refine ⟨fun j => Finset.le_sup (Finset.mem_univ j), ?_⟩
  obtain ⟨j, -, hj⟩ := Finset.exists_mem_eq_sup Finset.univ ⟨⟨0, hn⟩, Finset.mem_univ _⟩ f
  exact ⟨j, hj.symm⟩

/-- The fold of the signed minimum is at most the start and every entry, and is the start or one of the entries. -/
theorem fold_minsi {ι : Type} (s : Finset ι) (b : BitVec 32) (f : ι → BitVec 32) :
    ((s.fold IntOp.minsi b f).toInt ≤ b.toInt ∧ ∀ i ∈ s, (s.fold IntOp.minsi b f).toInt ≤ (f i).toInt)
      ∧ (s.fold IntOp.minsi b f = b ∨ ∃ i ∈ s, s.fold IntOp.minsi b f = f i) := by
  classical
  induction s using Finset.induction_on with
  | empty => simp
  | insert a s ha ih =>
    obtain ⟨⟨hb, hs⟩, hm⟩ := ih
    rw [Finset.fold_insert ha]
    have ht := SortNet.toInt_minsi (f a) (s.fold IntOp.minsi b f)
    refine ⟨⟨by rw [ht]; exact (min_le_right _ _).trans hb, fun i hi => ?_⟩, ?_⟩
    · rw [ht]
      rcases Finset.mem_insert.mp hi with rfl | hi
      · exact min_le_left _ _
      · exact (min_le_right _ _).trans (hs i hi)
    · rcases min_choice (f a).toInt (s.fold IntOp.minsi b f).toInt with h | h
      · exact .inr ⟨a, Finset.mem_insert_self _ _, BitVec.eq_of_toInt_eq (ht.trans h)⟩
      · rw [BitVec.eq_of_toInt_eq (ht.trans h)]
        exact hm.imp id fun ⟨i, hi, e⟩ => ⟨i, Finset.mem_insert_of_mem hi, e⟩

/-- Adding up one word per flag counts the set flags. -/
theorem fold_count {ι : Type} (s : Finset ι) (p : ι → BitVec 1) :
    s.fold IntOp.addi 0#32 (fun i => (p i).setWidth 32) = BitVec.ofNat 32 (s.filter fun i => p i = 1#1).card := by
  classical
  induction s using Finset.induction_on with
  | empty => simp
  | insert a s ha ih =>
    rw [Finset.fold_insert ha, ih, Finset.filter_insert]
    show (p a).setWidth 32 + BitVec.ofNat 32 _ = _
    rcases BitVec.eq_zero_or_eq_one (p a) with h | h
    · rw [h, if_neg (by decide)]; simp
    · rw [h, if_pos rfl, Finset.card_insert_of_notMem (by simp [ha]), Nat.add_comm _ 1, BitVec.ofNat_add]; rfl

/-- The pattern the kernel's row maximum starts from is the least extended real. -/
theorem ofBits_negInf : Ideal.ofBits .f32 0xFF800000#32 = (⊥ : EReal) := by
  simp [Ideal.ofBits, Ideal.ieee]

/-- The value the kernel overwrites an extracted entry with is negative. -/
theorem ofBits_negOne_lt : Ideal.ofBits .f32 0xBF800000#32 < (0 : EReal) := by
  have e : Ideal.ofBits .f32 0xBF800000#32 = ((-1 : ℝ) : EReal) := by
    simp [Ideal.ofBits, Ideal.ieee]
    norm_num
    rw [← EReal.coe_mul]
    norm_num
  rw [e]
  exact_mod_cast (by norm_num : (-1 : ℝ) < 0)

end Cert.Proof.Ker
-- ==== Proof.Rank.lean ====
module

public import Idealize.ShloMosaic.Lib.SortPrefix
public import Mathlib.Data.Fintype.Card
public import Mathlib.Data.Fintype.EquivFin
public import Mathlib.Order.Interval.Finset.Fin

/-! The `k` greatest entries of a finite row, a tie going to the lower position, described in four ways: by counting
the positions that beat a position, by a threshold that keeps exactly `k`, by `k` extractions of the maximum, and by a
stable sort. -/

@[expose] public section

noncomputable section

namespace Cert.Proof.Rank

open Finset Idealize.ShloMosaic
open scoped Classical

variable {α : Type} [LinearOrder α] {n : ℕ} (f : Fin n → α)

/-- Position `i` beats position `j`: its entry is greater, or equal and at a lower position. -/
def Beats (i j : Fin n) : Prop := f j < f i ∨ (f i = f j ∧ i < j)

/-- How many positions beat `j`. -/
def place (j : Fin n) : ℕ := (univ.filter fun i => Beats f i j).card

/-- No position beats itself. -/
theorem beats_irrefl (i : Fin n) : ¬ Beats f i i := by
  rintro (h | ⟨_, h⟩) <;> exact lt_irrefl _ h

/-- Beating is transitive. -/
theorem beats_trans {i j k : Fin n} (h : Beats f i j) (h' : Beats f j k) : Beats f i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two positions one beats the other. -/
theorem beats_total {i j : Fin n} (h : i ≠ j) : Beats f i j ∨ Beats f j i := by
  rcases lt_trichotomy (f i) (f j) with hf | hf | hf
  · exact .inr (.inl hf)
  · rcases lt_or_gt_of_ne h with hl | hl
    · exact .inl (.inr ⟨hf, hl⟩)
    · exact .inr (.inr ⟨hf.symm, hl⟩)
  · exact .inl (.inl hf)

/-- A position that beats another has the smaller place. -/
theorem place_lt_of_beats {i j : Fin n} (h : Beats f i j) : place f i < place f j := by
  refine card_lt_card ⟨fun k hk => ?_, fun hs => ?_⟩
  · rw [mem_filter] at hk ⊢
    exact ⟨mem_univ _, beats_trans f hk.2 h⟩
  · have : i ∈ univ.filter fun k => Beats f k i := hs (mem_filter.mpr ⟨mem_univ _, h⟩)
    exact beats_irrefl f i (mem_filter.mp this).2

/-- Different positions have different places. -/
theorem place_injective : Function.Injective (place f) := by
  intro i j h
  by_contra hne
  rcases beats_total f hne with hb | hb
  · exact absurd h (place_lt_of_beats f hb).ne
  · exact absurd h (place_lt_of_beats f hb).ne'

/-- The smaller place beats. -/
theorem beats_of_place_lt {i j : Fin n} (h : place f i < place f j) : Beats f i j := by
  have hne : i ≠ j := fun e => h.ne (e ▸ rfl)
  rcases beats_total f hne with hb | hb
  · exact hb
  · exact absurd h (place_lt_of_beats f hb).asymm

/-- A place is below the number of positions. -/
theorem place_lt (j : Fin n) : place f j < n := by
  have h : (univ.filter fun i => Beats f i j) ⊂ univ := by
    refine ⟨subset_univ _, fun hs => beats_irrefl f j (mem_filter.mp (hs (mem_univ j))).2⟩
  simpa [place] using card_lt_card h

/-- Every place below the row's length is some position's. -/
theorem exists_place {k : ℕ} (hk : k < n) : ∃ j, place f j = k := by
  have hs : Function.Surjective fun j => (⟨place f j, place_lt f j⟩ : Fin n) :=
    Finite.injective_iff_surjective.mp fun i j h => place_injective f (by simpa using h)
  obtain ⟨j, hj⟩ := hs ⟨k, hk⟩
  exact ⟨j, congrArg Fin.val hj⟩

/-! ## A threshold -/

/-- What the threshold entry `T` and threshold position `I` keep. -/
def Keep (T : α) (I : ℤ) (j : Fin n) : Prop := T < f j ∨ (f j = T ∧ (j.val : ℤ) ≤ I)

/-- What beats a kept position is kept. -/
theorem keep_of_beats {T : α} {I : ℤ} {i j : Fin n} (h : Beats f i j) (hj : Keep f T I j) : Keep f T I i := by
  rcases h with h | ⟨e, h⟩ <;> rcases hj with hj | ⟨e', hj⟩
  · exact .inl (hj.trans h)
  · exact .inl (e' ▸ h)
  · exact .inl (e ▸ hj)
  · have h' : i.val < j.val := h
    exact .inr ⟨e.trans e', by omega⟩

/-- A threshold that keeps exactly `k` positions keeps the first `k`. -/
theorem keep_iff_of_card {T : α} {I : ℤ} {k : ℕ} (h : (univ.filter fun j => Keep f T I j).card = k) (j : Fin n) :
    Keep f T I j ↔ place f j < k := by
  constructor
  · intro hj
    rw [← h]
    refine card_lt_card ⟨fun i hi => ?_, fun hs => ?_⟩
    · rw [mem_filter] at hi ⊢
      exact ⟨mem_univ _, keep_of_beats f hi.2 hj⟩
    · have : j ∈ univ.filter fun i => Beats f i j := hs (mem_filter.mpr ⟨mem_univ _, hj⟩)
      exact beats_irrefl f j (mem_filter.mp this).2
  · intro hj
    by_contra hn
    refine absurd hj (not_lt.mpr ?_)
    rw [← h]
    refine card_le_card fun i hi => ?_
    rw [mem_filter] at hi ⊢
    refine ⟨mem_univ _, ?_⟩
    have hne : i ≠ j := fun e => hn (e ▸ hi.2)
    rcases beats_total f hne with hb | hb
    · exact hb
    · exact absurd (keep_of_beats f hb hi.2) hn

/-- The threshold at a position keeps the positions up to its place. -/
theorem keep_at_iff (p j : Fin n) : Keep f (f p) (p.val : ℤ) j ↔ place f j < place f p + 1 := by
  rw [Nat.lt_succ_iff]
  constructor
  · rintro (h | ⟨e, h⟩)
    · exact (place_lt_of_beats f (.inl h)).le
    · have h' : j.val ≤ p.val := by omega
      rcases eq_or_lt_of_le h' with h' | h'
      · rw [Fin.ext h']
      · exact (place_lt_of_beats f (.inr ⟨e, h'⟩)).le
  · intro h
    rcases eq_or_lt_of_le h with h | h
    · rw [place_injective f h]
      exact .inr ⟨rfl, le_rfl⟩
    · rcases beats_of_place_lt f h with hb | ⟨e, hb⟩
      · exact .inl hb
      · have h' : j.val < p.val := hb
        exact .inr ⟨e, by omega⟩

/-! ## Extracting the maximum -/

/-- `g` is the row after `k` extractions: the first `k` positions hold `b`, every other its entry. -/
def Stage (b : α) (k : ℕ) (g : Fin n → α) : Prop := ∀ j, g j = if place f j < k then b else f j

/-- Before any extraction the working copy is the row. -/
theorem stage_zero (b : α) : Stage f b 0 f := fun j => by simp

/-- The maximum of the row after `k` extractions, at its first position, is the entry of place `k`. -/
theorem stage_max {b M : α} {k : ℕ} {g : Fin n → α} {p : Fin n} (hb : ∀ j, b < f j) (hg : Stage f b k g) (hk : k < n)
    (hle : ∀ j, g j ≤ M) (hp : g p = M) (hfirst : ∀ j, g j = M → p ≤ j) : place f p = k ∧ f p = M := by
  obtain ⟨q, hq⟩ := exists_place f hk
  have hgq : g q = f q := by rw [hg q, if_neg (by omega)]
  have hbM : b < M := (hb q).trans_le (hgq ▸ hle q)
  have hkp : ¬ place f p < k := fun h => by
    have := hg p
    rw [if_pos h, hp] at this
    exact hbM.ne' this
  have hgp : f p = M := by rw [← hp, hg p, if_neg hkp]
  refine ⟨?_, hgp⟩
  by_contra hne
  have hqp : place f q < place f p := by omega
  rcases beats_of_place_lt f hqp with h | ⟨e, h⟩
  · rw [hgp, ← hgq] at h
    exact absurd h (not_lt.mpr (hle q))
  · exact absurd h (not_lt.mpr (hfirst q (by rw [hgq, e, hgp])))

/-- Overwriting the position of place `k` is one more extraction. -/
theorem stage_succ {b : α} {k : ℕ} {g g' : Fin n → α} {p : Fin n} (hg : Stage f b k g) (hp : place f p = k)
    (hg' : ∀ j, g' j = if j = p then b else g j) : Stage f b (k + 1) g' := by
  intro j
  rw [hg' j, hg j]
  by_cases hj : j = p
  · rw [if_pos hj, if_pos (by rw [hj, hp]; omega)]
  · have hne : place f j ≠ k := fun e => hj (place_injective f (e.trans hp.symm))
    rw [if_neg hj]
    by_cases h : place f j < k
    · rw [if_pos h, if_pos (by omega)]
    · rw [if_neg h, if_neg (by omega)]

/-! ## A stable sort -/

/-- Inserting looks at the comparator only with the element inserted on the right. -/
theorem insertBefore_eq {ι : Type} {R R' : ι → ι → Bool} (a : ι) (l : List ι) (h : ∀ b ∈ l, R b a = R' b a) :
    insertBefore R a l = insertBefore R' a l := by
  induction l with
  | nil => rfl
  | cons b l ih =>
    unfold insertBefore
    rw [h b List.mem_cons_self, ih fun c hc => h c (List.mem_cons_of_mem b hc)]

/-- A stable sort compares a later element with an earlier one only. -/
theorem stableSort_eq {ι : Type} {R R' : ι → ι → Bool} (l : List ι) (h : l.Pairwise fun a b => R b a = R' b a) :
    stableSort R l = stableSort R' l := by
  induction l with
  | nil => rfl
  | cons a l ih =>
    rw [List.pairwise_cons] at h
    unfold stableSort
    rw [ih h.2]
    exact insertBefore_eq a _ fun b hb => h.1 b ((perm_stableSort R' l).mem_iff.mp hb)

/-- The stable sort of the positions by the entry alone, greater first, puts the position of place `k` at `k`. -/
theorem place_sortedFrom (B : Fin n → Fin n → Bool) (hB : ∀ i j, B i j = true ↔ f j < f i) (k : Fin n) :
    place f (sortedFrom B k) = k.val := by
  set B' : Fin n → Fin n → Bool := fun i j => decide (Beats f i j) with hB'
  have hlist : sortPositions n B = sortPositions n B' := by
    refine stableSort_eq _ ?_
    refine (List.pairwise_lt_finRange n).imp fun {a b} hab => ?_
    rw [Bool.eq_iff_iff, hB, hB', decide_eq_true_iff]
    constructor
    · exact fun h => .inl h
    · rintro (h | ⟨_, h⟩)
      · exact h
      · exact absurd h hab.asymm
  have hs : sortedFrom B = sortedFrom B' := by
    funext k
    unfold sortedFrom
    rw [List.get_of_eq hlist]
    rfl
  rw [hs]
  have hord : ∀ i j : Fin n, i < j → Beats f (sortedFrom B' i) (sortedFrom B' j) := by
    intro i j hij
    have h := sortedFrom_noInversion B' B' (fun a b h => by
        simp only [hB', decide_eq_true_iff, decide_eq_false_iff_not] at h ⊢
        exact fun h' => beats_irrefl f a (beats_trans f h h')) (fun _ _ h => h) (fun a b c h h' => by
        simp only [hB', decide_eq_false_iff_not] at h h' ⊢
        intro hac
        by_cases e : a = b
        · exact h' (e ▸ hac)
        · rcases beats_total f e with hb | hb
          · exact h hb
          · exact h' (beats_trans f hb hac)) i j hij
    simp only [hB', decide_eq_false_iff_not] at h
    exact (beats_total f fun e => hij.ne (sortedFrom_injective B' e)).resolve_right h
  have hiff : ∀ i j : Fin n, Beats f (sortedFrom B' i) (sortedFrom B' j) ↔ i < j := by
    intro i j
    refine ⟨fun h => ?_, hord i j⟩
    by_contra hn
    rcases eq_or_lt_of_le (not_lt.mp hn) with e | e
    · exact beats_irrefl f _ (e ▸ h)
    · exact beats_irrefl f _ (beats_trans f h (hord _ _ e))
  have himg : (univ.filter fun i => Beats f i (sortedFrom B' k)) = (univ.filter fun i => i < k).image (sortedFrom B') := by
    ext i
    obtain ⟨i', rfl⟩ := sortedFrom_surjective B' i
    simp only [mem_filter, mem_univ, true_and, mem_image, hiff]
    constructor
    · exact fun h => ⟨i', h, rfl⟩
    · rintro ⟨x, hx, e⟩
      exact sortedFrom_injective B' e ▸ hx
  rw [place, himg, card_image_of_injective _ (sortedFrom_injective B')]
  have : (univ.filter fun i : Fin n => i < k) = Finset.Iio k := by ext i; simp
  rw [this, Fin.card_Iio]

end Cert.Proof.Rank
-- ==== Proof.KerSelect.lean ====
module

public import proofs.«01_k».proof.Proof.KerFold
public import proofs.«01_k».proof.Proof.Rank
public import proofs.«01_k».proof.Proof.RunDecode
public import Idealize.ShloMosaic.Lib.WordCmp

/-! The kernel's selection: whichever way the seventeenth point takes, the threshold and the last kept column it leaves
for a row describe the row's first 32 places. -/

@[expose] public section

noncomputable section

namespace Cert.Proof.Ker

open Cert.KernelIdeal Cert.KernelIdeal.Gen
open Idealize.ShloMosaic Cert.Proof.Rank Cert.Proof.Run

/-- The kernel's column numbers. -/
theorem line_col (r : Fin 32) (j : Fin 16384) : line k0_pay57 r j = BitVec.ofNat 32 j.val := by
  unfold line
  rw [cell_apply]
  pointwise [k0_pay57]
  have e : j.val = j.val / 128 * 128 + j.val % 128 := by omega
  conv_rhs => rw [e, BitVec.ofNat_add, BitVec.ofNat_mul]
  rfl

/-- A column's number, read as a signed word, is itself. -/
theorem toInt_col (j : Fin 16384) : (BitVec.ofNat 32 j.val).toInt = (j.val : ℤ) :=
  WordCmp.toInt_ofNat_of_lt (j.isLt.trans (by norm_num))

/-- The kernel's row maximum. -/
theorem pay3_eq (v : S128x32x128.Idx → EReal) (r : Fin 32) :
    k0_pay3 (F := Ideal) v (ix3 0 r 0) = Finset.univ.fold max ⊥ (line v r) := by
  pointwise [k0_pay3]
  rw [fold_row max, ofBits_negInf]

/-- The kernel's least column number among the entries equal to the row maximum. -/
theorem pay4_eq (g : S128x32x128.Idx → BitVec 32) (v : S128x32x128.Idx → EReal) (r : Fin 32) :
    k0_pay4 (F := Ideal) g v (ix3 0 r 0)
      = Finset.univ.fold IntOp.minsi 2147483647#32 (fun j => if line v r j = k0_pay3 (F := Ideal) v (ix3 0 r 0) then line g r j else 16384#32) := by
  pointwise [k0_pay4]
  rw [fold_row IntOp.minsi]
  rfl

/-- One extraction: the entry at the least column is overwritten. -/
theorem pay5_eq (g : S128x32x128.Idx → BitVec 32) (v : S128x32x128.Idx → EReal) (r : Fin 32) (j : Fin 16384) :
    line (k0_pay5 (F := Ideal) g v) r j = if line g r j = k0_pay4 (F := Ideal) g v (ix3 0 r 0) then Ideal.ofBits .f32 0xBF800000#32 else line v r j := by
  unfold line
  rw [cell_apply]
  pointwise [k0_pay5]
  generalize g _ = a
  generalize k0_pay4 (F := Ideal) g v _ = b
  unfold Scalar.select IntOp.cmpi
  show (if BitVec.ofBool (a == b) = 1#1 then _ else _) = _
  exact if_congr ((WordCmp.ofBool_eq_one_iff _).trans beq_iff_eq) rfl rfl

/-- The threshold the slow way stores is the row maximum. -/
theorem pay6_eq (v : S128x32x128.Idx → EReal) (r : Fin 32) :
    k0_pay6 (F := Ideal) v (ix2 r 0) = k0_pay3 (F := Ideal) v (ix3 0 r 0) := by
  pointwise [k0_pay6]

/-- The last column the slow way stores is the least column holding the row maximum. -/
theorem pay7_eq (g : S128x32x128.Idx → BitVec 32) (v : S128x32x128.Idx → EReal) (r : Fin 32) :
    k0_pay7 (F := Ideal) g v (ix2 r 0) = k0_pay4 (F := Ideal) g v (ix3 0 r 0) := by
  pointwise [k0_pay7]

/-- The row maximum and the least column number: some column holds the maximum, and the kernel finds the first one. -/
theorem first_max (v : S128x32x128.Idx → EReal) (r : Fin 32) :
    ∃ p : Fin 16384, k0_pay4 (F := Ideal) k0_pay57 v (ix3 0 r 0) = BitVec.ofNat 32 p.val
      ∧ (∀ j, line v r j ≤ k0_pay3 (F := Ideal) v (ix3 0 r 0)) ∧ line v r p = k0_pay3 (F := Ideal) v (ix3 0 r 0)
      ∧ ∀ j, line v r j = k0_pay3 (F := Ideal) v (ix3 0 r 0) → p ≤ j := by
  have hs := fold_max_bot (by norm_num) (line v r)
  rw [← pay3_eq] at hs
  obtain ⟨hle, q, hq⟩ := hs
  have hI := toInt_col
  obtain ⟨⟨-, hmin⟩, hmem⟩ := fold_minsi (Finset.univ : Finset (Fin 16384)) 2147483647#32
    (fun j => if line v r j = k0_pay3 (F := Ideal) v (ix3 0 r 0) then line k0_pay57 r j else 16384#32)
  rw [← pay4_eq] at hmin hmem
  have hmin' : ∀ j, line v r j = k0_pay3 (F := Ideal) v (ix3 0 r 0) → (k0_pay4 (F := Ideal) k0_pay57 v (ix3 0 r 0)).toInt ≤ (j.val : ℤ) := by
    intro j hj
    have h := hmin j (Finset.mem_univ _)
    rwa [if_pos hj, line_col, hI] at h
  have hq' := hmin' q hq
  have hqlt := q.isLt
  rcases hmem with h | ⟨p, -, h⟩
  · rw [h] at hq'
    have : (2147483647#32).toInt = 2147483647 := by decide
    omega
  · by_cases hp : line v r p = k0_pay3 (F := Ideal) v (ix3 0 r 0)
    · rw [if_pos hp, line_col] at h
      refine ⟨p, h, hle, hp, fun j hj => ?_⟩
      have := hmin' j hj
      rw [h, hI] at this
      exact Fin.le_def.mpr (by omega)
    · rw [if_neg hp] at h
      rw [h] at hq'
      have : (16384#32).toInt = 16384 := by decide
      omega

/-- After `k` extractions exactly the row's first `k` places are overwritten. -/
theorem iter_stage (H : S128x32x128.Idx → EReal) (r : Fin 32) (h0 : ∀ j, 0 ≤ line H r j) (k : ℕ) (hk : k ≤ 16384) :
    Stage (line H r) (Ideal.ofBits .f32 0xBF800000#32) k (line (iter (F := Ideal) H k) r) := by
  induction k with
  | zero => exact stage_zero _ _
  | succ k ih =>
    obtain ⟨p, hp, hle, hmax, hfirst⟩ := first_max (iter (F := Ideal) H k) r
    obtain ⟨hpl, -⟩ := stage_max (line H r) (fun j => ofBits_negOne_lt.trans_le (h0 j)) (ih (by omega)) (by omega) hle hmax hfirst
    refine stage_succ (line H r) (ih (by omega)) hpl fun j => ?_
    rw [iter_succ, pay5_eq, line_col, hp]
    refine if_congr ?_ rfl rfl
    rw [WordCmp.ofNat_eq_ofNat_iff (by omega) (by omega)]
    exact Fin.ext_iff.symm

/-- A threshold and a last kept column, one of each for every row, under which a row keeps exactly its first 32 places. -/
def Keeps (H : S128x32x128.Idx → EReal) (T : S32x1.Idx → EReal) (I : S32x1.Idx → BitVec 32) : Prop :=
  ∀ (r : Fin 32) (j : Fin 16384), Keep (line H r) (T (ix2 r 0)) (I (ix2 r 0)).toInt j ↔ place (line H r) j < 32

/-- The slow way: 31 extractions, then the maximum left and its first column. -/
theorem keeps_slow (H : S128x32x128.Idx → EReal) (h0 : ∀ r j, 0 ≤ line H r j) :
    Keeps H (k0_pay6 (F := Ideal) (iter (F := Ideal) H 31)) (k0_pay7 (F := Ideal) k0_pay57 (iter (F := Ideal) H 31)) := by
  intro r j
  obtain ⟨p, hp, hle, hmax, hfirst⟩ := first_max (iter (F := Ideal) H 31) r
  obtain ⟨hpl, hv⟩ := stage_max (line H r) (fun j => ofBits_negOne_lt.trans_le (h0 r j)) (iter_stage H r (h0 r) 31 (by omega)) (by omega) hle hmax hfirst
  rw [pay6_eq, pay7_eq, hp, ← hv, toInt_col, keep_at_iff, hpl]

/-- The bit the kernel's mask holds at an index: greater than the row's threshold, or equal to it no later than the row's last kept column. -/
def flag (H : S128x32x128.Idx → EReal) (T : S32x1.Idx → EReal) (I : S32x1.Idx → BitVec 32) (x : S128x32x128.Idx) : BitVec 1 :=
  IntOp.ori (BitVec.ofBool (decide (T (ix2 (x 1) 0) < H x)))
    (IntOp.andi (BitVec.ofBool (decide (H x = T (ix2 (x 1) 0)))) (IntOp.cmpi .sle (k0_pay57 x) (I (ix2 (x 1) 0))))

/-- The mask holds exactly the columns that the threshold and the last kept column keep. -/
theorem flag_iff (H : S128x32x128.Idx → EReal) (T : S32x1.Idx → EReal) (I : S32x1.Idx → BitVec 32) (r : Fin 32) (j : Fin 16384) :
    line (flag H T I) r j = 1#1 ↔ Keep (line H r) (T (ix2 r 0)) (I (ix2 r 0)).toInt j := by
  have hc : k0_pay57 (cell r j) = BitVec.ofNat 32 j.val := line_col r j
  have h1 : cell r j 1 = r := rfl
  unfold line flag Keep
  rw [hc, h1, WordCmp.cmpi_sle_eq, toInt_col, WordCmp.andi_ofBool, WordCmp.ori_ofBool, WordCmp.ofBool_eq_one_iff, Bool.or_eq_true, Bool.and_eq_true,
    decide_eq_true_iff, decide_eq_true_iff, decide_eq_true_iff]

/-- The count check, as a maximum over the rows of one where the row's count is not 32. -/
theorem check (H : S128x32x128.Idx → EReal) (T : S32x1.Idx → EReal) (I : S32x1.Idx → BitVec 32) :
    k0_pay63 (F := Ideal) H T I = Finset.univ.fold max ⊥ (fun r : Fin 32 => Scalar.select
      (IntOp.cmpi .ne (BitVec.ofNat 32 (Finset.univ.filter fun j => line (flag H T I) r j = 1#1).card) 32#32) (1 : EReal) 0) := by
  pointwise [k0_pay63]
  rw [ofBits_negInf]
  refine congrArg (fun g => Finset.univ.fold max ⊥ g) (funext fun r => ?_)
  refine congrArg (fun z => Scalar.select (IntOp.cmpi .ne z 32#32) (1 : EReal) 0) ?_
  exact (fold_row IntOp.addi _ _ _ _).trans (fold_count _ _)

/-- A comparison of extended reals that holds is the word one. -/
theorem ogt_of_lt (a b : EReal) (h : b < a) : Scalar.cmpf (F := Ideal) (φ := .f32) .ogt a b = 1#1 := by
  show BitVec.ofBool (decide (b < a)) = 1#1
  rw [decide_eq_true h]
  rfl

/-- The fast way: once no row fails the count check, every row keeps exactly its first 32 places. -/
theorem keeps_fast (H : S128x32x128.Idx → EReal) (T : S32x1.Idx → EReal) (I : S32x1.Idx → BitVec 32)
    (h : ¬ badWord (F := Ideal) H T I = 1#1) : Keeps H T I := by
  classical
  have h0 : k0_pay63 (F := Ideal) H T I ≤ (0 : EReal) := by
    by_contra hc
    refine h ?_
    unfold badWord
    have e : Scalar.cmpf (F := Ideal) (φ := .f32) .ogt (k0_pay63 (F := Ideal) H T I) (Scalar.ofBits .f32 0#32) = 1#1 := by
      have hz : (Scalar.ofBits (F := Ideal) .f32 0#32) = (0 : EReal) := Ideal.ofBits_zero_f32
      rw [hz]
      exact ogt_of_lt _ _ (not_le.mp hc)
    refine (congrArg (fun z => Scalar.cmpi .ne (Scalar.extui z : BitVec 32) 0#32) e).trans ?_
    decide
  rw [check] at h0
  intro r j
  have hr := ((fold_max_bot (n := 32) (by norm_num) _).1 r).trans h0
  have hcard : (Finset.univ.filter fun j => line (flag H T I) r j = 1#1).card = 32 := by
    by_contra hne
    have hle : (Finset.univ.filter fun j => line (flag H T I) r j = 1#1).card ≤ 16384 :=
      (Finset.card_filter_le _ _).trans (by simp)
    generalize (Finset.univ.filter fun j => line (flag H T I) r j = 1#1).card = n at hne hle hr
    have hw : ¬ BitVec.ofNat 32 n = 32#32 := fun e => hne ((WordCmp.ofNat_eq_ofNat_iff (w := 32) (by omega) (by norm_num)).mp e)
    have hb : IntOp.cmpi .ne (BitVec.ofNat 32 n) 32#32 = 1#1 := by
      show BitVec.ofBool (BitVec.ofNat 32 n != 32#32) = 1#1
      rw [bne_iff_ne.mpr hw]
      rfl
    rw [hb] at hr
    exact absurd hr (not_le.mpr zero_lt_one)
  refine keep_iff_of_card (line H r) ?_ j
  refine Eq.trans (congrArg Finset.card ?_) hcard
  ext j
  simp only [Finset.mem_filter, Finset.mem_univ, true_and, flag_iff]

end Cert.Proof.Ker
-- ==== Proof.KerBlocks.lean ====
module

public import proofs.«01_k».proof.Proof.Gen.KernelIdeal.Frame
public import Idealize.ShloMosaic.Lib.Pipeline.ValueKit
public import Idealize.ShloMosaic.Lib.Pointwise
public import Idealize.ShloMosaic.Lib.Pointwise.IndexBridge

/-! The four input blocks a point holds, as places of the kernel's arguments. -/

@[expose] public section

noncomputable section

namespace Cert.Proof.Ker

open Cert.KernelIdeal Cert.KernelIdeal.Gen
open Idealize.ShloMosaic Idealize.ShloMosaic.TcCoe

/-- The block each window shows at each point. -/
theorem idx : ∀ t : Fin cfg0.N, win0_0.index t = ![0, 0] ∧ win0_1.index t = ![min t.val 15, 0] ∧ win0_2.index t = ![0, min t.val 15]
    ∧ win0_3.index t = ![0, t.val - 16] := by decide +kernel

variable (m : (ℓ : Loc nD τ sig) → Buf (Elt Ideal) ℓ) (c : Dev nD) (t : Fin cfg0.N)

/-- The first window is the whole input. -/
theorem blk0 (r : Fin 32) (k : Fin 2048) : iblk m c 0 t (ix2 r k) = m (c.tc.loc main_arg0) (ix2 r k) := by
  blk_ext [iblk, V_main_arg0, idx t]

/-- The second window is a block of 1024 rows of the encoder's weights. -/
theorem blk1 (ht : t.val < 16) (l : Fin 1024) (k : Fin 2048) :
    iblk m c 1 t (ix2 l k) = m (c.tc.loc main_arg1) (ix2 (⟨t.val * 1024 + l.val, by omega⟩ : Fin 16384) k) := by
  blk_ext [iblk, V_main_arg1, idx t]

/-- The third window is the same block of the bias. -/
theorem blk2 (ht : t.val < 16) (l : Fin 1024) :
    iblk m c 2 t (ix2 0 l) = m (c.tc.loc main_arg2) (ix1 (⟨t.val * 1024 + l.val, by omega⟩ : Fin 16384)) := by
  blk_ext! [iblk, idx t]

/-- The fourth window is a block of 1024 columns of the decoder's weights. -/
theorem blk3 (ht : 16 ≤ t.val) (q : Fin 2048) (l : Fin 1024) :
    iblk m c 3 t (ix2 q l) = m (c.tc.loc main_arg3) (ix2 q (⟨(t.val - 16) * 1024 + l.val, by
      have := t.isLt
      have h : cfg0.N = 32 := N_0
      omega⟩ : Fin 16384)) := by
  blk_ext [iblk, V_main_arg3, idx t]

end Cert.Proof.Ker
-- ==== Proof.Spec.lean ====
module

public import proofs.«01_k».proof.Proof.Rank
public import Idealize.ShloMosaic.Lib.Pointwise

/-! What both programs compute, as extended reals. -/

@[expose] public section

noncomputable section

namespace Cert.Proof.Spec

open Idealize.ShloMosaic Cert.Proof.Rank

/-- The hidden layer: row `r` of `x` against row `j` of the encoder's weights, plus the bias, cut off at zero. -/
def act (x : (⟨2, ![32, 2048]⟩ : Shape).Idx → EReal) (we : (⟨2, ![16384, 2048]⟩ : Shape).Idx → EReal) (b : (⟨1, ![16384]⟩ : Shape).Idx → EReal)
    (r : Fin 32) (j : Fin 16384) : EReal :=
  max ((∑ k : Fin 2048, x (ix2 r k) * we (ix2 j k)) + b (ix1 j)) 0

/-- A row with everything but its first 32 places replaced by zero. -/
def kept (f : Fin 16384 → EReal) (j : Fin 16384) : EReal := if place f j < 32 then f j else 0

/-- The reconstruction from the kept hidden layer. -/
def recon (x : (⟨2, ![32, 2048]⟩ : Shape).Idx → EReal) (we : (⟨2, ![16384, 2048]⟩ : Shape).Idx → EReal) (b : (⟨1, ![16384]⟩ : Shape).Idx → EReal)
    (wd : (⟨2, ![2048, 16384]⟩ : Shape).Idx → EReal) (r : Fin 32) (q : Fin 2048) : EReal :=
  ∑ j : Fin 16384, kept (act x we b r) j * wd (ix2 q j)

/-- The hidden layer is nowhere negative. -/
theorem act_nonneg (x : (⟨2, ![32, 2048]⟩ : Shape).Idx → EReal) (we : (⟨2, ![16384, 2048]⟩ : Shape).Idx → EReal)
    (b : (⟨1, ![16384]⟩ : Shape).Idx → EReal) (r : Fin 32) (j : Fin 16384) : 0 ≤ act x we b r j := le_max_right _ _

end Cert.Proof.Spec
-- ==== Proof.KerEncode.lean ====
module

public import proofs.«01_k».proof.Proof.KerFold
public import proofs.«01_k».proof.Proof.KerBlocks
public import proofs.«01_k».proof.Proof.RunLaunch
public import proofs.«01_k».proof.Proof.Spec

/-! The hidden layer the encoding points leave in scratch is the one of `Spec`. -/

@[expose] public section

noncomputable section

namespace Cert.Proof.Ker

open Cert.KernelIdeal Cert.KernelIdeal.Gen
open Idealize.ShloMosaic Idealize.ShloMosaic.TcCoe Cert.Proof.Run Cert.Proof.Spec

/-- What an encoding point computes from its blocks, entry by entry. -/
theorem pay10_eq (x : S32x2048.Idx → EReal) (we : S1024x2048.Idx → EReal) (b : S1x1024.Idx → EReal) (r : Fin 32) (l : Fin 1024) :
    k0_pay10 (F := Ideal) x we b (ix2 r l) = max ((∑ k : Fin 2048, x (ix2 r k) * we (ix2 l k)) + b (ix2 0 l)) 0 := by
  pointwise [k0_pay10]

variable (m : (ℓ : Loc nD τ sig) → Buf (Elt Ideal) ℓ) (c : Dev nD)

/-- A row of the scratch is the hidden layer's row, column by column. -/
theorem line_Hf (r : Fin 32) :
    line (Hf (F := Ideal) m c) r = act (m (c.tc.loc main_arg0)) (m (c.tc.loc main_arg1)) (m (c.tc.loc main_arg2)) r := by
  funext j
  have hj := j.isLt
  have hN : cfg0.N = 32 := N_0
  have ht : (cell r j 0).val / 8 = (⟨j.val / 1024, by omega⟩ : Fin cfg0.N).val := by
    show j.val / 128 / 8 = j.val / 1024
    omega
  have hn : (cell r j 0).val % 8 * 128 + (cell r j 2).val = j.val % 1024 := by
    show j.val / 128 % 8 * 128 + j.val % 128 = j.val % 1024
    omega
  refine (Hf_eq (F := Ideal) m c ht hn (Nat.mod_lt _ (by norm_num))).trans ?_
  refine (congrArg _ (ix2_eq_valueIdx (n0 := 32) (n1 := 1024) r ⟨j.val % 1024, Nat.mod_lt _ (by norm_num)⟩).symm).trans ?_
  refine (pay10_eq _ _ _ r _).trans ?_
  have e : ∀ h : j.val / 1024 * 1024 + j.val % 1024 < 16384, (⟨j.val / 1024 * 1024 + j.val % 1024, h⟩ : Fin 16384) = j :=
    fun h => Fin.ext (show j.val / 1024 * 1024 + j.val % 1024 = j.val by omega)
  unfold act
  rw [blk2 m c _ (by show j.val / 1024 < 16; omega), e]
  simp only [blk0, blk1 m c (⟨j.val / 1024, by omega⟩ : Fin cfg0.N) (by show j.val / 1024 < 16; omega), e]

end Cert.Proof.Ker
-- ==== Proof.KerDecode.lean ====
module

public import proofs.«01_k».proof.Proof.KerSelect
public import proofs.«01_k».proof.Proof.KerEncode

/-! The products the decoding points add. -/

@[expose] public section

noncomputable section

namespace Cert.Proof.Ker

open Cert.KernelIdeal Cert.KernelIdeal.Gen
open Idealize.ShloMosaic Idealize.ShloMosaic.TcCoe Cert.Proof.Run Cert.Proof.Spec Cert.Proof.Rank

/-- What a decoding point adds, entry by entry, its eight tiles of 128 columns given as one row `g` of 1024. -/
theorem pay8_eq (w : BitVec 32) (p0 p1 p2 p3 p4 p5 : S32x128.Idx → EReal) (t6 t7 : S1x32x128.Idx → EReal) (T : S32x1.Idx → EReal) (I : S32x1.Idx → BitVec 32)
    (x4 : S2048x1024.Idx → EReal) (r : Fin 32) (q : Fin 2048) (g : Fin 1024 → EReal)
    (h0 : ∀ l : Fin 128, p0 (ix2 r l) = g ⟨0 + l.val, by omega⟩) (h1 : ∀ l : Fin 128, p1 (ix2 r l) = g ⟨128 + l.val, by omega⟩) (h2 : ∀ l : Fin 128, p2 (ix2 r l) = g ⟨256 + l.val, by omega⟩) (h3 : ∀ l : Fin 128, p3 (ix2 r l) = g ⟨384 + l.val, by omega⟩) (h4 : ∀ l : Fin 128, p4 (ix2 r l) = g ⟨512 + l.val, by omega⟩) (h5 : ∀ l : Fin 128, p5 (ix2 r l) = g ⟨640 + l.val, by omega⟩) (h6 : ∀ l : Fin 128, t6 (ix3 0 r l) = g ⟨768 + l.val, by omega⟩) (h7 : ∀ l : Fin 128, t7 (ix3 0 r l) = g ⟨896 + l.val, by omega⟩) :
    k0_pay8 (F := Ideal) w p0 p1 p2 p3 p4 p5 t6 t7 T T I x4 (ix2 r q) = ∑ x : Fin 1024, Scalar.select
      (IntOp.ori (BitVec.ofBool (decide (T (ix2 r 0) < g x)))
        (IntOp.andi (BitVec.ofBool (decide (g x = T (ix2 r 0)))) (IntOp.cmpi .sle (IntOp.addi (BitVec.ofNat 32 x.val) (Scalar.muli w 1024#32)) (I (ix2 r 0)))))
      (g x * x4 (ix2 q x)) 0 := by
  pointwise [k0_pay8]
  refine Finset.sum_congr rfl fun x _ => ?_
  have e : (if h : x.val < 128 then p0 (ix2 r ⟨x.val, h⟩) else
      if h : x.val - 128 < 128 then p1 (ix2 r ⟨x.val - 128, h⟩) else
      if h : x.val - 128 - 128 < 128 then p2 (ix2 r ⟨x.val - 128 - 128, h⟩) else
      if h : x.val - 128 - 128 - 128 < 128 then p3 (ix2 r ⟨x.val - 128 - 128 - 128, h⟩) else
      if h : x.val - 128 - 128 - 128 - 128 < 128 then p4 (ix2 r ⟨x.val - 128 - 128 - 128 - 128, h⟩) else
      if h : x.val - 128 - 128 - 128 - 128 - 128 < 128 then p5 (ix2 r ⟨x.val - 128 - 128 - 128 - 128 - 128, h⟩) else
      if h : x.val - 128 - 128 - 128 - 128 - 128 - 128 < 128 then t6 (ix3 0 r ⟨x.val - 128 - 128 - 128 - 128 - 128 - 128, h⟩) else
      t7 (ix3 0 r ⟨x.val - 128 - 128 - 128 - 128 - 128 - 128 - 128, by omega⟩)) = g x := by
    split_ifs <;> simp only [h0, h1, h2, h3, h4, h5, h6, h7] <;> congr 1 <;> exact Fin.ext (by simp only []; omega)
  simp only [e]

/-- Where the `k`-th tile load of a decoding point starts. -/
theorem off2_eq : ∀ (t : Fin cfg0.N) (k : Fin 8), 16 ≤ t.val → k0_off2 (grid0.coords t) (BitVec.ofNat 32 k.val) = ![(t.val - 16) * 8 + k.val, 0, 0] := by
  decide +kernel

/-- The first column a decoding point covers, as a word. -/
theorem first_col : ∀ t : Fin cfg0.N, 16 ≤ t.val →
    Scalar.muli (Scalar.subi (BitVec.ofNat 32 ((grid0.coords t) 0).val) 16#32) 1024#32 = BitVec.ofNat 32 ((t.val - 16) * 1024) := by
  decide +kernel

/-- The grid has 32 points. -/
theorem lt32 (t : Fin cfg0.N) : t.val < 32 := by
  have := t.isLt
  have h : cfg0.N = 32 := N_0
  omega

/-- Column `x` of the block that point `t` decodes. -/
def colOf (t : Fin cfg0.N) (x : Fin 1024) : Fin 16384 := ⟨(t.val - 16) * 1024 + x.val, by have := lt32 t; omega⟩

/-- A tile load reads 128 columns of the row. -/
theorem tile_apply (t : Fin cfg0.N) (ht : 16 ≤ t.val) (h5 : k0_cond5 (grid0.coords t) = 1#1) (k : Fin 8) (H : S128x32x128.Idx → EReal)
    (r : Fin 32) (l : Fin 128) (x : Fin 1024) (hx : x.val = 128 * k.val + l.val) :
    tile (F := Ideal) (grid0.coords t) h5 k H (ix3 0 r l) = line H r (colOf t x) := by
  unfold tile line VecWindow.window
  refine congrArg H (funext fun a => Fin.ext ?_)
  have ho := off2_eq t k ht
  match a with
  | ⟨0, _⟩ =>
    show k0_off2 (grid0.coords t) (BitVec.ofNat 32 k.val) 0 + 1 * 0 = ((t.val - 16) * 1024 + x.val) / 128
    rw [ho]
    show (t.val - 16) * 8 + k.val + 1 * 0 = _
    omega
  | ⟨1, _⟩ =>
    show k0_off2 (grid0.coords t) (BitVec.ofNat 32 k.val) 1 + 1 * r.val = r.val
    rw [ho]
    show 0 + 1 * r.val = r.val
    omega
  | ⟨2, _⟩ =>
    show k0_off2 (grid0.coords t) (BitVec.ofNat 32 k.val) 2 + 1 * l.val = ((t.val - 16) * 1024 + x.val) % 128
    rw [ho]
    show 0 + 1 * l.val = _
    omega

/-- What a decoding point adds under a threshold and last column that keep each row's first 32 places: the kept entries of
its 1024 columns against the decoder's block. -/
theorem dec_apply (t : Fin cfg0.N) (ht : 16 ≤ t.val) (h5 : k0_cond5 (grid0.coords t) = 1#1) (H : S128x32x128.Idx → EReal)
    (T : S32x1.Idx → EReal) (I : S32x1.Idx → BitVec 32) (hk : Keeps H T I) (x4 : S2048x1024.Idx → EReal) (r : Fin 32) (q : Fin 2048) :
    dec (F := Ideal) (grid0.coords t) h5 H T I x4 (ix2 r q) = ∑ x : Fin 1024, kept (line H r) (colOf t x) * x4 (ix2 q x) := by
  unfold dec
  refine (pay8_eq _ _ _ _ _ _ _ _ _ T I x4 r q (fun x => line H r (colOf t x)) ?_ ?_ ?_ ?_ ?_ ?_ ?_ ?_).trans ?_
  · intro l; pointwise [k0_pay64]; exact tile_apply t ht h5 0 H r l _ (Nat.zero_add _).symm
  · intro l; pointwise [k0_pay65]; exact tile_apply t ht h5 1 H r l _ rfl
  · intro l; pointwise [k0_pay66]; exact tile_apply t ht h5 2 H r l _ rfl
  · intro l; pointwise [k0_pay67]; exact tile_apply t ht h5 3 H r l _ rfl
  · intro l; pointwise [k0_pay68]; exact tile_apply t ht h5 4 H r l _ rfl
  · intro l; pointwise [k0_pay69]; exact tile_apply t ht h5 5 H r l _ rfl
  · exact fun l => tile_apply t ht h5 6 H r l _ rfl
  · exact fun l => tile_apply t ht h5 7 H r l _ rfl
  refine Finset.sum_congr rfl fun x _ => ?_
  have hw : IntOp.addi (BitVec.ofNat 32 x.val) (Scalar.muli (Scalar.subi (BitVec.ofNat 32 ((grid0.coords t) 0).val) 16#32) 1024#32)
      = BitVec.ofNat 32 (colOf t x).val := by
    rw [first_col t ht]
    show BitVec.ofNat 32 x.val + BitVec.ofNat 32 _ = _
    rw [← BitVec.ofNat_add, Nat.add_comm]
    rfl
  rw [hw, WordCmp.cmpi_sle_eq, toInt_col, WordCmp.andi_ofBool, WordCmp.ori_ofBool]
  unfold kept
  rw [ite_mul, zero_mul]
  refine if_congr ?_ rfl rfl
  rw [← hk r (colOf t x)]
  unfold Keep
  refine (WordCmp.ofBool_eq_one_iff _).trans ?_
  rw [Bool.or_eq_true, Bool.and_eq_true, decide_eq_true_iff, decide_eq_true_iff, decide_eq_true_iff]

end Cert.Proof.Ker
-- ==== Proof.KerSum.lean ====
module

public import proofs.«01_k».proof.Proof.KerDecode

/-! The kernel's accumulated result is the reconstruction of `Spec`. -/

@[expose] public section

noncomputable section

namespace Cert.Proof.Ker

open Cert.KernelIdeal Cert.KernelIdeal.Gen
open Idealize.ShloMosaic Idealize.ShloMosaic.TcCoe Idealize.SL.Sem Cert.Proof.Run Cert.Proof.Spec Cert.Proof.Rank

variable (m : (ℓ : Loc nD τ sig) → Buf (Elt Ideal) ℓ)

/-- The summand that column `j` contributes to the reconstruction at `(r, q)`; zero past the last column. -/
def term (c : Dev nD) (r : Fin 32) (q : Fin 2048) (j : ℕ) : EReal :=
  if h : j < 16384 then
    kept (act (m (c.tc.loc main_arg0)) (m (c.tc.loc main_arg1)) (m (c.tc.loc main_arg2)) r) ⟨j, h⟩ * m (c.tc.loc main_arg3) (ix2 q ⟨j, h⟩)
  else 0

/-- The summand of a column that exists. -/
theorem term_of_lt (c : Dev nD) (r : Fin 32) (q : Fin 2048) (j : ℕ) (h : j < 16384) : term m c r q j =
    kept (act (m (c.tc.loc main_arg0)) (m (c.tc.loc main_arg1)) (m (c.tc.loc main_arg2)) r) ⟨j, h⟩ * m (c.tc.loc main_arg3) (ix2 q ⟨j, h⟩) :=
  dif_pos h

/-- What the output window holds after point `n`: the sum over the columns decoded so far. -/
def Acc (c : Dev nD) (n : ℕ) (X : S32x2048.Idx → EReal) : Prop :=
  ∀ (r : Fin 32) (q : Fin 2048), X (ix2 r q) = ∑ j ∈ Finset.range ((n - 15) * 1024), term m c r q j

/-- A decoding point adds the summands of its 1024 columns. -/
theorem dec_term (c : Dev nD) (t : Fin cfg0.N) (ht : 16 ≤ t.val) (h5 : k0_cond5 (grid0.coords t) = 1#1)
    (T : S32x1.Idx → EReal) (I : S32x1.Idx → BitVec 32) (hk : Keeps (Hf (F := Ideal) m c) T I) (r : Fin 32) (q : Fin 2048) :
    dec (F := Ideal) (grid0.coords t) h5 (Hf (F := Ideal) m c) T I (iblk m c 3 t) (ix2 r q)
      = ∑ x ∈ Finset.range 1024, term m c r q ((t.val - 16) * 1024 + x) := by
  refine (dec_apply t ht h5 _ T I hk _ r q).trans ?_
  rw [Finset.sum_range, line_Hf]
  refine Finset.sum_congr rfl fun x _ => ?_
  rw [blk3 m c t ht]
  have hlt : (t.val - 16) * 1024 + x.val < 16384 := by
    have := lt32 t
    omega
  rw [term_of_lt m c r q _ hlt]
  rfl

/-- The first decoding point leaves the sum over the first block of columns. -/
theorem acc_first (c : Dev nD) (t : Fin cfg0.N) (ht : t.val = 16) (h5 : k0_cond5 (grid0.coords t) = 1#1)
    (T : S32x1.Idx → EReal) (I : S32x1.Idx → BitVec 32) (hk : Keeps (Hf (F := Ideal) m c) T I) :
    Acc m c 16 (dec (F := Ideal) (grid0.coords t) h5 (Hf (F := Ideal) m c) T I (iblk m c 3 t)) := by
  intro r q
  rw [dec_term m c t (by omega) h5 T I hk r q, ht]
  exact Finset.sum_congr (by norm_num) fun j _ => by norm_num

/-- A later decoding point extends the sum by its block of columns. -/
theorem acc_next (c : Dev nD) (t : Fin cfg0.N) (ht : 16 < t.val) (h5 : k0_cond5 (grid0.coords t) = 1#1)
    (T : S32x1.Idx → EReal) (I : S32x1.Idx → BitVec 32) (hk : Keeps (Hf (F := Ideal) m c) T I) (Y : S32x2048.Idx → EReal) (hY : Acc m c (t.val - 1) Y) :
    Acc m c t.val (addf (F := Ideal) (φ := .f32) Y (dec (F := Ideal) (grid0.coords t) h5 (Hf (F := Ideal) m c) T I (iblk m c 3 t))) := by
  intro r q
  show Y (ix2 r q) + dec (F := Ideal) (grid0.coords t) h5 (Hf (F := Ideal) m c) T I (iblk m c 3 t) (ix2 r q) = _
  rw [dec_term m c t (by omega) h5 T I hk r q, hY r q]
  have e : (t.val - 15) * 1024 = (t.val - 16) * 1024 + 1024 := by omega
  rw [e, Finset.sum_range_add, show t.val - 1 - 15 = t.val - 16 by omega]

/-- After the last point the sum is over all columns: the reconstruction. -/
theorem acc_last (c : Dev nD) (X : S32x2048.Idx → EReal) (hX : Acc m c 31 X) (r : Fin 32) (q : Fin 2048) :
    X (ix2 r q) = recon (m (c.tc.loc main_arg0)) (m (c.tc.loc main_arg1)) (m (c.tc.loc main_arg2)) (m (c.tc.loc main_arg3)) r q := by
  rw [hX r q]
  refine (Finset.sum_range (n := 16384) _).trans ?_
  unfold recon
  refine Finset.sum_congr rfl fun j _ => ?_
  rw [term_of_lt m c r q _ j.isLt]

/-- The idealized kernel's run: its result is the reconstruction of its arguments, its arguments unchanged. -/
theorem run_recon (ρ : Dev nD → PrngReg) :
    θ_run (defs (F := Ideal)) (onTc (τ := τ) (main (F := Ideal))) ⟨m, fun _ => 0, ρ⟩ fun r =>
      (∀ c : Dev nD,
        Acc m c 31 (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  run_main (F := Ideal) m ρ (fun c => Keeps (Hf (F := Ideal) m c)) (Acc m)
    (fun c T I h => keeps_fast _ T I h)
    (fun c => keeps_slow _ fun r j => by rw [line_Hf]; exact act_nonneg _ _ _ _ _)
    (fun c t h5 T I ht hk => acc_first m c t ht h5 T I hk)
    (fun c t h5 T I Y ht hk hY => acc_next m c t ht h5 T I hk Y hY)

end Cert.Proof.Ker
-- ==== Proof.RefSelect.lean ====
module

public import proofs.«01_k».proof.Proof.Rank
public import proofs.«01_k».proof.Proof.Gen.ReferenceIdeal
public import Idealize.ShloMosaic.Lib.ScatterToDense.RefScatter
public import Idealize.ShloMosaic.PureOps.Ideal.Laws
public import Idealize.ShloMosaic.Lib.Pointwise
public import Idealize.ShloMosaic.Lib.Pointwise.IndexBridge

/-! The reference's selection: a stable top-32 per row scattered into zeros is the row with everything but its first 32
places replaced by zero. -/

@[expose] public section

noncomputable section

namespace Cert.Proof.Ref

open Cert.ReferenceIdeal Cert.ReferenceIdeal.Gen
open Idealize.ShloMosaic Cert.Proof.Rank

/-- Row `r` of a `[32, 16384]` array. -/
def row (h : S32x16384.Idx → EReal) (r : Fin 32) (j : Fin 16384) : EReal := h (ix2 r j)

/-- The position a row's stable sort, greater first, takes its `k`-th entry from. -/
def src (h : S32x16384.Idx → EReal) (r : Fin 32) (k : Fin 16384) : Fin 16384 :=
  sortedFrom (fun a b => FloatOps.cmpfTotal (F := Ideal) (φ := .f32) .gt (row h r a) (row h r b) == 1#1) k

/-- The position sorted to `k` has place `k`. -/
theorem place_src (h : S32x16384.Idx → EReal) (r : Fin 32) (k : Fin 16384) : place (row h r) (src h r k) = k.val :=
  place_sortedFrom (row h r) _ (fun i j => by
    rw [beq_iff_eq, Ideal.cmpfTotal_def]
    show BitVec.ofBool (decide (row h r j < row h r i)) = 1#1 ↔ _
    by_cases hlt : row h r j < row h r i <;> simp [hlt]) k

/-- The top-k's positions of sorted entry `k`. -/
abbrev top (h : S32x16384.Idx → EReal) : (S32x32.Idx → EReal) × IVec S32x32 32 :=
  Host.topK S32x32 1 (FloatOps.cmpfTotal (F := Ideal) (φ := .f32) .gt) h sliceFits_S32x16384_S32x32

/-- Moving along the columns of a two-axis index. -/
theorem along_ix2 (r : Fin 32) (k k' : Fin 16384) : (ix2 r k : S32x16384.Idx).along (1 : Fin 2) k' = ix2 r k' := by
  funext a
  match a with
  | 0 => rfl
  | 1 => rfl

/-- The two results of the sort behind the top-k. -/
theorem sort_src (h : S32x16384.Idx → EReal) (idx : IVec S32x16384 32) (r : Fin 32) (k : Fin 16384) :
    (Host.sort2 S32x16384 1 (fun l r : EReal × BitVec 32 => FloatOps.cmpfTotal (F := Ideal) (φ := .f32) .gt l.1 r.1) h idx).1 (ix2 r k)
        = row h r (src h r k)
      ∧ (Host.sort2 S32x16384 1 (fun l r : EReal × BitVec 32 => FloatOps.cmpfTotal (F := Ideal) (φ := .f32) .gt l.1 r.1) h idx).2 (ix2 r k)
        = idx (ix2 r (src h r k)) := by
  have e : (1 : ℕ) < S32x16384.rank := by decide
  have hx : ∀ k', (ix2 r k : S32x16384.Idx).along (⟨1, e⟩ : Fin S32x16384.rank) k' = ix2 r k' := along_ix2 r k
  unfold Host.sort2
  rw [dif_pos e]
  simp only [hx]
  exact ⟨rfl, rfl⟩

/-- The top-k's values and positions. -/
theorem top_src (h : S32x16384.Idx → EReal) (r : Fin 32) (k : Fin 32) (hk : k.val < 16384) :
    (top h).1 (ix2 r k) = row h r (src h r ⟨k.val, hk⟩) ∧ (top h).2 (ix2 r k) = BitVec.ofNat 32 (src h r ⟨k.val, hk⟩).val := by
  unfold top Host.topK
  obtain ⟨h1, h2⟩ := sort_src h (fun i => if hd : 1 < S32x16384.rank then iotaInDim S32x16384 32 ⟨1, hd⟩ i else 0#32) r ⟨k.val, hk⟩
  constructor
  · pointwise
    exact h1
  · pointwise
    refine h2.trans ?_
    rw [dif_pos (by decide)]
    rfl

/-- The reference's index pairs: the row number, and the position, both after the wrap of negative indices. -/
abbrev pairs (t : IVec S32x32 32) : IVec S32x32x2 32 :=
  concatenate S32x32x2 2 [⟨S32x32x1, (broadcastInDim S32x32x1 ![0, 1] bcast_S32x32_S32x32x1_0_1 (broadcastInDim S32x32 ![0, 1] bcast_S32x1_S32x32_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩, ⟨S32x32x1, (broadcastInDim S32x32x1 ![0, 1] bcast_S32x32_S32x32x1_0_1 (select (cmpi .slt t (broadcastInDim S32x32 ![] bcast_S_S32x32 (constantI S_ 32 0#32))) (addi t (broadcastInDim S32x32 ![] bcast_S_S32x32 (constantI S_ 32 16384#32))) t))⟩] concatenates_S32x32x1_S32x32x1_S32x32x2_d2

/-- A word below 2³¹ is not negative, so the wrap leaves it. -/
theorem wrap_small (n : ℕ) (hn : n < 2 ^ 31) (w : BitVec 32) :
    Scalar.select (IntOp.cmpi .slt (BitVec.ofNat 32 n) 0#32) w (BitVec.ofNat 32 n) = BitVec.ofNat 32 n := by
  rw [WordCmp.cmpi_slt_zero, WordCmp.select_decide, if_neg]
  rw [BitVec.toNat_ofNat, Nat.mod_eq_of_lt (by omega)]
  omega

/-- The row of a scatter index. -/
theorem pairs_row (t : IVec S32x32 32) (r : Fin 32) (k : Fin 32) : pairs t (ix3 r k 0) = BitVec.ofNat 32 r.val := by
  pointwise [pairs]
  exact wrap_small r.val (by omega) _

/-- The column of a scatter index. -/
theorem pairs_col (t : IVec S32x32 32) (r : Fin 32) (k : Fin 32) {n : ℕ} (hn : n < 16384) (ht : t (ix2 r k) = BitVec.ofNat 32 n) :
    pairs t (ix3 r k 1) = BitVec.ofNat 32 n := by
  pointwise [pairs]
  rw [ht]
  exact wrap_small n (by omega) _

/-- The reference's sparse hidden layer. -/
abbrev sparse (h : S32x16384.Idx → EReal) : S32x16384.Idx → EReal :=
  Host.scatter scatter_S32x16384_S32x32x2_S32x32_n_01_01_2 (fun _ b => b)
    (broadcastInDim S32x16384 ![] bcast_S_S32x16384 (constant (F := Ideal) S_ .f32 0x00000000#32)) (pairs (top h).2) (top h).1

open ScatterToDense in
/-- A fold of updates that each set a position of a row to the row's entry there leaves zero or that entry. -/
theorem gs_eq (f : Fin 16384 → EReal) (s : ℕ → Fin 16384) (j : Fin 16384) (n : ℕ) :
    GS (fun k => BitVec.ofNat 32 (s k).val) (fun k => f (s k)) 0 j.val n = if ∃ k, k < n ∧ s k = j then f j else 0 := by
  induction n with
  | zero => simp [GS_zero]
  | succ n ih =>
    have hs : (BitVec.ofNat 32 (s n).val).toNat = (s n).val := by
      rw [BitVec.toNat_ofNat]; have := (s n).isLt; omega
    by_cases h : s n = j
    · rw [GS_succ_hit (by rw [hs, h]), if_pos ⟨n, by omega, h⟩, h]
    · rw [GS_succ_miss (by rw [hs]; exact fun e => h (Fin.ext e.symm)), ih]
      refine if_congr ⟨fun ⟨k, hk, e⟩ => ⟨k, by omega, e⟩, fun ⟨k, hk, e⟩ => ⟨k, ?_, e⟩⟩ rfl rfl
      have : k ≠ n := fun hkn => h (hkn ▸ e)
      omega

/-- The sparse hidden layer keeps the first 32 places of every row. -/
theorem sparse_apply (h : S32x16384.Idx → EReal) (r : Fin 32) (j : Fin 16384) :
    sparse h (ix2 r j) = if place (row h r) j < 32 then row h r j else 0 := by
  have hlt : ∀ k, (if k < 32 then k else 0) < 16384 := fun k => by split <;> omega
  set s : Fin 32 → ℕ → Fin 16384 := fun i k => src h i ⟨if k < 32 then k else 0, hlt k⟩ with hs
  have hsk : ∀ (i k : Fin 32), s i k.val = src h i ⟨k.val, by omega⟩ := fun i k => by
    simp only [hs, k.isLt, if_true]
  have key := ScatterToDense.scatter_eq_GS (T := 32) (C := 16384) (K := 32) scatter_S32x16384_S32x32x2_S32x32_n_01_01_2 rfl rfl rfl (by norm_num) (by norm_num)
    (broadcastInDim S32x16384 ![] bcast_S_S32x16384 (constant (F := Ideal) S_ .f32 0x00000000#32)) (pairs (top h).2) (top h).1
    (fun i k => BitVec.ofNat 32 (s i k).val) (fun i k => row h i (s i k))
    (fun i k => by rw [← ix3_eq_valueIdx]; exact pairs_row _ i k)
    (fun i k => by
      rw [← ix3_eq_valueIdx, hsk]
      exact pairs_col _ i k (src h i _).isLt (top_src h i k (by omega)).2)
    (fun i k => by rw [← ix2_eq_valueIdx, hsk]; exact (top_src h i k (by omega)).1) r j
  rw [← ix2_eq_valueIdx] at key
  refine key.trans ?_
  have hz : broadcastInDim S32x16384 ![] bcast_S_S32x16384 (constant (F := Ideal) S_ .f32 0x00000000#32) (ix2 r j) = 0 := by
    pointwise
  rw [hz, gs_eq]
  refine if_congr ⟨fun ⟨k, hk, e⟩ => ?_, fun hp => ⟨place (row h r) j, hp, ?_⟩⟩ rfl rfl
  · rw [← e, hsk r ⟨k, hk⟩, place_src]; exact hk
  · apply place_injective (row h r)
    rw [hsk r ⟨place (row h r) j, hp⟩, place_src]

end Cert.Proof.Ref
-- ==== Proof.RefValue.lean ====
module

public import proofs.«01_k».proof.Proof.Spec
public import proofs.«01_k».proof.Proof.RefSelect
public import proofs.«01_k».proof.Proof.Gen.ReferenceIdeal.Run

/-! The idealized reference's result is the reconstruction of `Spec`. -/

@[expose] public section

noncomputable section

namespace Cert.Proof.Ref

open Cert.ReferenceIdeal Cert.ReferenceIdeal.Gen
open Idealize.ShloMosaic Idealize.ShloMosaic.TcCoe Idealize.SL.Sem Cert.Proof.Rank Cert.Proof.Spec

/-- The reference's hidden layer, as its operations compute it. -/
abbrev hid (x : S32x2048.Idx → EReal) (we : S16384x2048.Idx → EReal) (b : S16384.Idx → EReal) : S32x16384.Idx → EReal :=
  maximumf (F := Ideal) (φ := .f32) (addf (F := Ideal) (φ := .f32) (Host.dotGeneral (F := Ideal) (φ₁ := .f32) (φ₂ := .f32) dot_S32x2048_S2048x16384_S32x16384_1_0_0_1_n_n none x
      (transpose S2048x16384 [1, 0] we transposes_S16384x2048_S2048x16384_1_0))
    (broadcastInDim S32x16384 ![0, 1] bcast_S1x16384_S32x16384_0_1 (broadcastInDim S1x16384 ![1] bcast_S16384_S1x16384_1 b)))
    (broadcastInDim S32x16384 ![] bcast_S_S32x16384 (constant (F := Ideal) S_ .f32 0x00000000#32))

/-- A row of the reference's hidden layer is the one of `Spec`. -/
theorem hid_row (x : S32x2048.Idx → EReal) (we : S16384x2048.Idx → EReal) (b : S16384.Idx → EReal) (r : Fin 32) :
    row (hid x we b) r = act x we b r := by
  funext j
  unfold row act
  pointwise [hid]

/-- The reference's result, as its operations compute it. -/
abbrev out (x : S32x2048.Idx → EReal) (we : S16384x2048.Idx → EReal) (b : S16384.Idx → EReal) (wd : S2048x16384.Idx → EReal) : S32x2048.Idx → EReal :=
  Host.dotGeneral (F := Ideal) (φ₁ := .f32) (φ₂ := .f32) dot_S32x16384_S16384x2048_S32x2048_1_0_0_1_n_n none (sparse (hid x we b))
    (transpose S16384x2048 [1, 0] wd transposes_S2048x16384_S16384x2048_1_0)

/-- The reference's result, entry by entry, is the reconstruction. -/
theorem out_apply (x : S32x2048.Idx → EReal) (we : S16384x2048.Idx → EReal) (b : S16384.Idx → EReal) (wd : S2048x16384.Idx → EReal)
    (r : Fin 32) (q : Fin 2048) : out x we b wd (ix2 r q) = recon x we b wd r q := by
  unfold out recon
  generalize hs : sparse (hid x we b) = s
  have hk : ∀ j, s (ix2 r j) = kept (act x we b r) j := fun j => by
    rw [← hs, sparse_apply, hid_row]
    rfl
  pointwise
  exact Finset.sum_congr rfl fun j _ => by rw [hk]

/-- The idealized reference's run: its result is the reconstruction of its arguments, its arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
          = out (m ((c.tc : Thread nD τ).loc main_arg0)) (m ((c.tc : Thread nD τ).loc main_arg1)) (m ((c.tc : Thread nD τ).loc main_arg2))
              (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  Cert.ReferenceIdeal.Value.run (F := Ideal) m ρ

end Cert.Proof.Ref
-- ==== Proof.Algebraic.lean ====
module

public import proofs.«01_k».proof.Defs
public import proofs.«01_k».proof.Proof.Gen.KernelIdeal
public import proofs.«01_k».proof.Proof.Gen.ReferenceIdeal
public import proofs.«01_k».proof.Proof.KerSum
public import proofs.«01_k».proof.Proof.RefValue

/-! The value claim: over the extended reals the kernel's result is the reference's. -/

@[expose] public section

noncomputable section

namespace Cert.Proof.Alg

open Idealize.ShloMosaic Idealize.ShloMosaic.TcCoe Idealize.SL.Sem

/-- From memories that agree on the four arguments, the idealized kernel and the idealized reference run, end with one
result, and leave their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Ref.out (m (c.tc.loc Cert.KernelIdeal.main_arg0)) (m (c.tc.loc Cert.KernelIdeal.main_arg1)) (m (c.tc.loc Cert.KernelIdeal.main_arg2))
    (m (c.tc.loc Cert.KernelIdeal.main_arg3)), ?_, ?_⟩
  · refine (θ_run _ _ _).mono (fun r h c => ⟨?_, (h.1 c).2⟩) (Ker.run_recon m g)
    funext i
    refine (congrArg _ (eq_ix2 i)).trans (Eq.trans ?_ (congrArg _ (eq_ix2 i)).symm)
    exact (Ker.acc_last m c _ (h.1 c).1 _ _).trans (Ref.out_apply _ _ _ _ _ _).symm
  · refine (θ_run _ _ _).mono (fun r h c => ⟨(h c).1.trans ?_, (h c).2⟩) (Ref.run_out m' g')
    obtain ⟨h0, h1, h2, h3⟩ := hagree c
    rw [h0, h1, h2, h3]

end Cert.Proof.Alg
-- ==== Proof.lean ====
/- The five claims of `Cert.Claim` put together: the three programs run, return their arguments unchanged and every
   semaphore counter to zero; the idealization preserves the kernel; and over the extended reals the kernel's result is the
   reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel
public import proofs.«01_k».proof.Proof.RunRef
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Run.kernel_frame, Run.kernelIdeal_frame, Run.reference_frame, trivial, Alg.algebraic⟩

end Cert.Proof

end
